-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S16x4096 : Shape := ⟨2, ![16, 4096]⟩
abbrev S4096x32 : Shape := ⟨2, ![4096, 32]⟩
abbrev S512x16 : Shape := ⟨2, ![512, 16]⟩
abbrev S4096 : Shape := ⟨1, ![4096]⟩
abbrev S49x64 : Shape := ⟨2, ![49, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S128x64 : Shape := ⟨2, ![128, 64]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S512x16 : S_.BroadcastsInDim S512x16 (![] : Fin 0 → Fin S512x16.rank)
  reducesTo_S512x16_S_d0_1 : S512x16.ReducesTo [0, 1] S_
  bcast_S_S49x64 : S_.BroadcastsInDim S49x64 (![] : Fin 0 → Fin S49x64.rank)
  reducesTo_S49x64_S_d0_1 : S49x64.ReducesTo [0, 1] S_
  bcast_S_S64 : S_.BroadcastsInDim S64 (![] : Fin 0 → Fin S64.rank)
  reducesTo_S64_S_d0 : S64.ReducesTo [0] S_
  bcast_S_S32 : S_.BroadcastsInDim S32 (![] : Fin 0 → Fin S32.rank)
  reducesTo_S32_S_d0 : S32.ReducesTo [0] S_
  bcast_S_S128 : S_.BroadcastsInDim S128 (![] : Fin 0 → Fin S128.rank)
  reducesTo_S128_S_d0 : S128.ReducesTo [0] S_

variable [Facts]

def fn_part3 {F : FTy → Type} [FloatOps F] (main_arg15 : FVec F S128 .f32) (main_arg16 : FVec F S128 .f32) (main_v50 : IVec S_ 1) : IVec S_ 1 :=
  let main_v51 : FVec F S128 .f32 := Host.absf main_arg15
  let main_cst_19 : FVec F S_ .f32 := constant S_ .f32 0x7F800000#32
  let main_v52 : FVec F S128 .f32 := broadcastInDim S128 ![] bcast_S_S128 main_cst_19
  let main_v53 : IVec S128 1 := cmpf .olt main_v51 main_v52
  let main_c_20 : IVec S_ 1 := constantI S_ 1 1#1
  let main_v54 : IVec S_ 1 := (fun x v => Host.reduce IntOp.andi x v reducesTo_S128_S_d0 h_S_) main_v53 main_c_20
  let main_v55 : IVec S_ 1 := andi main_v50 main_v54
  let main_v56 : FVec F S128 .f32 := Host.absf main_arg16
  let main_cst_21 : FVec F S_ .f32 := constant S_ .f32 0x7F800000#32
  let main_v57 : FVec F S128 .f32 := broadcastInDim S128 ![] bcast_S_S128 main_cst_21
  let main_v58 : IVec S128 1 := cmpf .olt main_v56 main_v57
  let main_c_22 : IVec S_ 1 := constantI S_ 1 1#1
  let main_v59 : IVec S_ 1 := (fun x v => Host.reduce IntOp.andi x v reducesTo_S128_S_d0 h_S_) main_v58 main_c_22
  let main_v60 : IVec S_ 1 := andi main_v55 main_v59
  main_v60

def fn_part2 {F : FTy → Type} [FloatOps F] (main_arg8 : FVec F S64 .f32) (main_arg11 : FVec F S32 .f32) (main_arg12 : FVec F S32 .f32) (main_arg15 : FVec F S128 .f32) (main_arg16 : FVec F S128 .f32) (main_v30 : IVec S_ 1) (main_v33 : IVec S64 1) : IVec S_ 1 :=
  let main_c_12 : IVec S_ 1 := constantI S_ 1 1#1
  let main_v34 : IVec S_ 1 := (fun x v => Host.reduce IntOp.andi x v reducesTo_S64_S_d0 h_S_) main_v33 main_c_12
  let main_v35 : IVec S_ 1 := andi main_v30 main_v34
  let main_v36 : FVec F S64 .f32 := Host.absf main_arg8
  let main_cst_13 : FVec F S_ .f32 := constant S_ .f32 0x7F800000#32
  let main_v37 : FVec F S64 .f32 := broadcastInDim S64 ![] bcast_S_S64 main_cst_13
  let main_v38 : IVec S64 1 := cmpf .olt main_v36 main_v37
  let main_c_14 : IVec S_ 1 := constantI S_ 1 1#1
  let main_v39 : IVec S_ 1 := (fun x v => Host.reduce IntOp.andi x v reducesTo_S64_S_d0 h_S_) main_v38 main_c_14
  let main_v40 : IVec S_ 1 := andi main_v35 main_v39
  let main_v41 : FVec F S32 .f32 := Host.absf main_arg11
  let main_cst_15 : FVec F S_ .f32 := constant S_ .f32 0x7F800000#32
  let main_v42 : FVec F S32 .f32 := broadcastInDim S32 ![] bcast_S_S32 main_cst_15
  let main_v43 : IVec S32 1 := cmpf .olt main_v41 main_v42
  let main_c_16 : IVec S_ 1 := constantI S_ 1 1#1
  let main_v44 : IVec S_ 1 := (fun x v => Host.reduce IntOp.andi x v reducesTo_S32_S_d0 h_S_) main_v43 main_c_16
  let main_v45 : IVec S_ 1 := andi main_v40 main_v44
  let main_v46 : FVec F S32 .f32 := Host.absf main_arg12
  let main_cst_17 : FVec F S_ .f32 := constant S_ .f32 0x7F800000#32
  let main_v47 : FVec F S32 .f32 := broadcastInDim S32 ![] bcast_S_S32 main_cst_17
  let main_v48 : IVec S32 1 := cmpf .olt main_v46 main_v47
  let main_c_18 : IVec S_ 1 := constantI S_ 1 1#1
  let main_v49 : IVec S_ 1 := (fun x v => Host.reduce IntOp.andi x v reducesTo_S32_S_d0 h_S_) main_v48 main_c_18
  let main_v50 : IVec S_ 1 := andi main_v45 main_v49
  fn_part3 (F := F) main_arg15 main_arg16 main_v50

def fn_part1 {F : FTy → Type} [FloatOps F] (main_arg5 : FVec F S49x64 .f32) (main_arg6 : FVec F S64 .f32) (main_arg7 : FVec F S64 .f32) (main_arg8 : FVec F S64 .f32) (main_arg11 : FVec F S32 .f32) (main_arg12 : FVec F S32 .f32) (main_arg15 : FVec F S128 .f32) (main_arg16 : FVec F S128 .f32) (main_v15 : IVec S_ 1) (main_v16 : FVec F S512x16 .f32) : IVec S_ 1 :=
  let main_cst_5 : FVec F S_ .f32 := constant S_ .f32 0x7F800000#32
  let main_v17 : FVec F S512x16 .f32 := broadcastInDim S512x16 ![] bcast_S_S512x16 main_cst_5
  let main_v18 : IVec S512x16 1 := cmpf .olt main_v16 main_v17
  let main_c_6 : IVec S_ 1 := constantI S_ 1 1#1
  let main_v19 : IVec S_ 1 := (fun x v => Host.reduce IntOp.andi x v reducesTo_S512x16_S_d0_1 h_S_) main_v18 main_c_6
  let main_v20 : IVec S_ 1 := andi main_v15 main_v19
  let main_v21 : FVec F S49x64 .f32 := Host.absf main_arg5
  let main_cst_7 : FVec F S_ .f32 := constant S_ .f32 0x7F800000#32
  let main_v22 : FVec F S49x64 .f32 := broadcastInDim S49x64 ![] bcast_S_S49x64 main_cst_7
  let main_v23 : IVec S49x64 1 := cmpf .olt main_v21 main_v22
  let main_c_8 : IVec S_ 1 := constantI S_ 1 1#1
  let main_v24 : IVec S_ 1 := (fun x v => Host.reduce IntOp.andi x v reducesTo_S49x64_S_d0_1 h_S_) main_v23 main_c_8
  let main_v25 : IVec S_ 1 := andi main_v20 main_v24
  let main_v26 : FVec F S64 .f32 := Host.absf main_arg6
  let main_cst_9 : FVec F S_ .f32 := constant S_ .f32 0x7F800000#32
  let main_v27 : FVec F S64 .f32 := broadcastInDim S64 ![] bcast_S_S64 main_cst_9
  let main_v28 : IVec S64 1 := cmpf .olt main_v26 main_v27
  let main_c_10 : IVec S_ 1 := constantI S_ 1 1#1
  let main_v29 : IVec S_ 1 := (fun x v => Host.reduce IntOp.andi x v reducesTo_S64_S_d0 h_S_) main_v28 main_c_10
  let main_v30 : IVec S_ 1 := andi main_v25 main_v29
  let main_v31 : FVec F S64 .f32 := Host.absf main_arg7
  let main_cst_11 : FVec F S_ .f32 := constant S_ .f32 0x7F800000#32
  let main_v32 : FVec F S64 .f32 := broadcastInDim S64 ![] bcast_S_S64 main_cst_11
  let main_v33 : IVec S64 1 := cmpf .olt main_v31 main_v32
  fn_part2 (F := F) main_arg8 main_arg11 main_arg12 main_arg15 main_arg16 main_v30 main_v33

def fn {F : FTy → Type} [FloatOps F] (main_arg0 : FVec F S16x4096 .f32) (main_arg1 : IVec S16x4096 32) (main_arg2 : FVec F S4096x32 .f32) (main_arg3 : FVec F S512x16 .f32) (main_arg4 : IVec S4096 32) (main_arg5 : FVec F S49x64 .f32) (main_arg6 : FVec F S64 .f32) (main_arg7 : FVec F S64 .f32) (main_arg8 : FVec F S64 .f32) (main_arg9 : FVec F S64x32 .f32) (main_arg10 : FVec F S32 .f32) (main_arg11 : FVec F S32 .f32) (main_arg12 : FVec F S32 .f32) (main_arg13 : FVec F S32x128 .f32) (main_arg14 : FVec F S128 .f32) (main_arg15 : FVec F S128 .f32) (main_arg16 : FVec F S128 .f32) (main_arg17 : FVec F S128x64 .f32) (main_arg18 : FVec F S64 .f32) (main_arg19 : FVec F S64 .f32) (main_arg20 : FVec F S64 .f32) : IVec S_ 1 :=
  let main_c : IVec S_ 32 := constantI S_ 32 0#32
  let main_v0 : IVec S4096 32 := broadcastInDim S4096 ![] bcast_S_S4096 main_c
  let main_v1 : IVec S4096 1 := cmpi .sge main_arg4 main_v0
  let main_c_0 : IVec S_ 32 := constantI S_ 32 512#32
  let main_v2 : IVec S4096 32 := broadcastInDim S4096 ![] bcast_S_S4096 main_c_0
  let main_v3 : IVec S4096 1 := cmpi .slt main_arg4 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_v6 : FVec F S16x4096 .f32 := Host.absf main_arg0
  let main_cst : FVec F S_ .f32 := constant S_ .f32 0x7F800000#32
  let main_v7 : FVec F S16x4096 .f32 := broadcastInDim S16x4096 ![] bcast_S_S16x4096 main_cst
  let main_v8 : IVec S16x4096 1 := cmpf .olt main_v6 main_v7
  let main_c_2 : IVec S_ 1 := constantI S_ 1 1#1
  let main_v9 : IVec S_ 1 := (fun x v => Host.reduce IntOp.andi x v reducesTo_S16x4096_S_d0_1 h_S_) main_v8 main_c_2
  let main_v10 : IVec S_ 1 := andi main_v5 main_v9
  let main_v11 : FVec F S4096x32 .f32 := Host.absf main_arg2
  let main_cst_3 : FVec F S_ .f32 := constant S_ .f32 0x7F800000#32
  let main_v12 : FVec F S4096x32 .f32 := broadcastInDim S4096x32 ![] bcast_S_S4096x32 main_cst_3
  let main_v13 : IVec S4096x32 1 := cmpf .olt main_v11 main_v12
  let main_c_4 : IVec S_ 1 := constantI S_ 1 1#1
  let main_v14 : IVec S_ 1 := (fun x v => Host.reduce IntOp.andi x v reducesTo_S4096x32_S_d0_1 h_S_) main_v13 main_c_4
  let main_v15 : IVec S_ 1 := andi main_v10 main_v14
  let main_v16 : FVec F S512x16 .f32 := Host.absf main_arg3
  fn_part1 (F := F) main_arg5 main_arg6 main_arg7 main_arg8 main_arg11 main_arg12 main_arg15 main_arg16 main_v15 main_v16
-- ==== Kernel.lean ====
abbrev S16x4096 : Shape := ⟨2, ![16, 4096]⟩
abbrev S4096x32 : Shape := ⟨2, ![4096, 32]⟩
abbrev S512x16 : Shape := ⟨2, ![512, 16]⟩
abbrev S4096 : Shape := ⟨1, ![4096]⟩
abbrev S49x64 : Shape := ⟨2, ![49, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S128x64 : Shape := ⟨2, ![128, 64]⟩
abbrev S1x65536 : Shape := ⟨2, ![1, 65536]⟩
abbrev S1x4096 : Shape := ⟨2, ![1, 4096]⟩
abbrev S1x69632 : Shape := ⟨2, ![1, 69632]⟩
abbrev S32x4096 : Shape := ⟨2, ![32, 4096]⟩
abbrev S1x64 : Shape := ⟨2, ![1, 64]⟩
abbrev S183x64 : Shape := ⟨2, ![183, 64]⟩
abbrev S1x32 : Shape := ⟨2, ![1, 32]⟩
abbrev S67x32 : Shape := ⟨2, ![67, 32]⟩
abbrev S1x128 : Shape := ⟨2, ![1, 128]⟩
abbrev S35x128 : Shape := ⟨2, ![35, 128]⟩
abbrev S64x16 : Shape := ⟨2, ![64, 16]⟩
abbrev S49 : Shape := ⟨1, ![49]⟩
abbrev S49x1 : Shape := ⟨2, ![49, 1]⟩
abbrev S1x1x64 : Shape := ⟨3, ![1, 1, 64]⟩
abbrev S1 : Shape := ⟨1, ![1]⟩
abbrev S1x1x1 : Shape := ⟨3, ![1, 1, 1]⟩
abbrev S64x1 : Shape := ⟨2, ![64, 1]⟩
abbrev S1x1 : Shape := ⟨2, ![1, 1]⟩
abbrev S32x64 : Shape := ⟨2, ![32, 64]⟩
abbrev S16x64 : Shape := ⟨2, ![16, 64]⟩
abbrev S1x1x32 : Shape := ⟨3, ![1, 1, 32]⟩
abbrev S32x1 : Shape := ⟨2, ![32, 1]⟩
abbrev S512x4096 : Shape := ⟨2, ![512, 4096]⟩
abbrev S64x4096 : Shape := ⟨2, ![64, 4096]⟩
abbrev S64x65536 : Shape := ⟨2, ![64, 65536]⟩
abbrev S32x65536 : Shape := ⟨2, ![32, 65536]⟩
abbrev S65536 : Shape := ⟨1, ![65536]⟩
abbrev S33x65536 : Shape := ⟨2, ![33, 65536]⟩
abbrev S65536x16 : Shape := ⟨2, ![65536, 16]⟩
abbrev S33x16 : Shape := ⟨2, ![33, 16]⟩
abbrev S1x16 : Shape := ⟨2, ![1, 16]⟩
abbrev S32x16 : Shape := ⟨2, ![32, 16]⟩
abbrev S1x1x128 : Shape := ⟨3, ![1, 1, 128]⟩
abbrev S128x1 : Shape := ⟨2, ![128, 1]⟩
abbrev S128x32 : Shape := ⟨2, ![128, 32]⟩
abbrev S128x16 : Shape := ⟨2, ![128, 16]⟩
abbrev S16 : Shape := ⟨1, ![16]⟩
abbrev S64x128 : Shape := ⟨2, ![64, 128]⟩
abbrev S16x32 : Shape := ⟨2, ![16, 32]⟩

abbrev nBuf : Space → Nat
  | .hbm => 45
  | .vmem => 8
  | .smem => 0
  | _ => 0

abbrev bufTy : (tb : Table) → Fin (tcTables nBuf tb) → BufTy
  | .hbm, ⟨0, _⟩ => ⟨S16x4096, .f32⟩
  | .hbm, ⟨1, _⟩ => ⟨S16x4096, .i32⟩
  | .hbm, ⟨2, _⟩ => ⟨S4096x32, .f32⟩
  | .hbm, ⟨3, _⟩ => ⟨S512x16, .f32⟩
  | .hbm, ⟨4, _⟩ => ⟨S4096, .i32⟩
  | .hbm, ⟨5, _⟩ => ⟨S49x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S1x65536, .f32⟩
  | .hbm, ⟨22, _⟩ => ⟨S1x65536, .i32⟩
  | .hbm, ⟨23, _⟩ => ⟨S1x4096, .i32⟩
  | .hbm, ⟨24, _⟩ => ⟨S1x69632, .i32⟩
  | .hbm, ⟨25, _⟩ => ⟨S32x4096, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S183x64, .f32⟩
  | .hbm, ⟨33, _⟩ => ⟨S1x32, .f32⟩
  | .hbm, ⟨34, _⟩ => ⟨S1x32, .f32⟩
  | .hbm, ⟨35, _⟩ => ⟨S1x32, .f32⟩
  | .hbm, ⟨36, _⟩ => ⟨S67x32, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S35x128, .f32⟩
  | .hbm, ⟨41, _⟩ => ⟨S64x16, .f32⟩
  | .hbm, ⟨42, _⟩ => ⟨S16x64, .f32⟩
  | .hbm, ⟨43, _⟩ => ⟨S16x32, .f32⟩
  | .hbm, ⟨44, _⟩ => ⟨S16x32, .f32⟩
  | .local _ .vmem, ⟨0, _⟩ => ⟨S1x65536, .f32⟩
  | .local _ .vmem, ⟨1, _⟩ => ⟨S1x69632, .i32⟩
  | .local _ .vmem, ⟨2, _⟩ => ⟨S32x4096, .f32⟩
  | .local _ .vmem, ⟨3, _⟩ => ⟨S512x16, .f32⟩
  | .local _ .vmem, ⟨4, _⟩ => ⟨S183x64, .f32⟩
  | .local _ .vmem, ⟨5, _⟩ => ⟨S67x32, .f32⟩
  | .local _ .vmem, ⟨6, _⟩ => ⟨S35x128, .f32⟩
  | .local _ .vmem, ⟨7, _⟩ => ⟨S64x16, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x65536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x69632 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S183x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S67x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S35x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S16x4096 : Shape := ⟨2, ![16, 4096]⟩
abbrev S4096x32 : Shape := ⟨2, ![4096, 32]⟩
abbrev S512x16 : Shape := ⟨2, ![512, 16]⟩
abbrev S4096 : Shape := ⟨1, ![4096]⟩
abbrev S49x64 : Shape := ⟨2, ![49, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S128x64 : Shape := ⟨2, ![128, 64]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x16 : Shape := ⟨2, ![4096, 16]⟩
abbrev S1x4096x32 : Shape := ⟨3, ![1, 4096, 32]⟩
abbrev S16x4096x32 : Shape := ⟨3, ![16, 4096, 32]⟩
abbrev S1x4096x16 : Shape := ⟨3, ![1, 4096, 16]⟩
abbrev S16x4096x16 : Shape := ⟨3, ![16, 4096, 16]⟩
abbrev S16x4096x1 : Shape := ⟨3, ![16, 4096, 1]⟩
abbrev S16x4096x49 : Shape := ⟨3, ![16, 4096, 49]⟩
abbrev S16x4096x64 : Shape := ⟨3, ![16, 4096, 64]⟩
abbrev S1x1x64 : Shape := ⟨3, ![1, 1, 64]⟩
abbrev S1x1x32 : Shape := ⟨3, ![1, 1, 32]⟩
abbrev S16x32 : Shape := ⟨2, ![16, 32]⟩
abbrev S16 : Shape := ⟨1, ![16]⟩
abbrev S16x1 : Shape := ⟨2, ![16, 1]⟩
abbrev S16x128 : Shape := ⟨2, ![16, 128]⟩
abbrev S1x128 : Shape := ⟨2, ![1, 128]⟩
abbrev S16x64 : Shape := ⟨2, ![16, 64]⟩
abbrev S1x64 : Shape := ⟨2, ![1, 64]⟩

abbrev nBuf : Space → Nat
  | .hbm => 215
  | .vmem => 0
  | .smem => 0
  | _ => 0

abbrev hbmTy0_0 (i : Nat) : BufTy := match i % 128 with
  | 0 => ⟨S16x4096, .f32⟩
  | 1 => ⟨S16x4096, .i32⟩
  | 2 => ⟨S4096x32, .f32⟩
  | 3 => ⟨S512x16, .f32⟩
  | 4 => ⟨S4096, .i32⟩
  | 5 => ⟨S49x64, .f32⟩
  | 6 => ⟨S64, .f32⟩
  | 7 => ⟨S64, .f32⟩
  | 8 => ⟨S64, .f32⟩
  | 9 => ⟨S64x32, .f32⟩
  | 10 => ⟨S32, .f32⟩
  | 11 => ⟨S32, .f32⟩
  | 12 => ⟨S32, .f32⟩
  | 13 => ⟨S32x128, .f32⟩
  | 14 => ⟨S128, .f32⟩
  | 15 => ⟨S128, .f32⟩
  | 16 => ⟨S128, .f32⟩
  | 17 => ⟨S128x64, .f32⟩
  | 18 => ⟨S64, .f32⟩
  | 19 => ⟨S64, .f32⟩
  | 20 => ⟨S64, .f32⟩
  | 21 => ⟨S16x4096, .f32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S1, .i32⟩
  | 31 => ⟨S_, .i32⟩
  | 32 => ⟨S4096x1, .i32⟩
  | 33 => ⟨S4096x1, .i1⟩
  | 34 => ⟨S1x1, .i32⟩
  | 35 => ⟨S4096x1, .i32⟩
  | 36 => ⟨S4096x1, .i1⟩
  | 37 => ⟨S4096x1, .i1⟩
  | 38 => ⟨S_, .i1⟩
  | 39 => ⟨S4096, .i1⟩
  | 40 => ⟨S4096x16, .f32⟩
  | 41 => ⟨S4096x16, .i1⟩
  | 42 => ⟨S_, .f32⟩
  | 43 => ⟨S4096x16, .f32⟩
  | 44 => ⟨S4096x16, .f32⟩
  | 45 => ⟨S1x4096x32, .f32⟩
  | 46 => ⟨S16x4096x32, .f32⟩
  | 47 => ⟨S1x4096x16, .f32⟩
  | 48 => ⟨S16x4096x16, .f32⟩
  | 49 => ⟨S16x4096x1, .f32⟩
  | 50 => ⟨S16x4096x49, .f32⟩
  | 51 => ⟨S16x4096x64, .f32⟩
  | 52 => ⟨S1x1x64, .f32⟩
  | 53 => ⟨S16x4096x64, .f32⟩
  | 54 => ⟨S16x4096x64, .f32⟩
  | 55 => ⟨S_, .f32⟩
  | 56 => ⟨S16x4096, .f32⟩
  | 57 => ⟨S16x4096x1, .f32⟩
  | 58 => ⟨S_, .f32⟩
  | 59 => ⟨S16x4096x1, .f32⟩
  | 60 => ⟨S16x4096x1, .f32⟩
  | 61 => ⟨S16x4096x64, .f32⟩
  | 62 => ⟨S16x4096x64, .f32⟩
  | 63 => ⟨S16x4096x64, .f32⟩
  | 64 => ⟨S_, .f32⟩
  | 65 => ⟨S16x4096, .f32⟩
  | 66 => ⟨S16x4096x1, .f32⟩
  | 67 => ⟨S_, .f32⟩
  | 68 => ⟨S16x4096x1, .f32⟩
  | 69 => ⟨S16x4096x1, .f32⟩
  | 70 => ⟨S16x4096x64, .f32⟩
  | 71 => ⟨S16x4096x64, .f32⟩
  | 72 => ⟨S_, .f32⟩
  | 73 => ⟨S16x4096x1, .f32⟩
  | 74 => ⟨S16x4096x1, .f32⟩
  | 75 => ⟨S16x4096x1, .f32⟩
  | 76 => ⟨S16x4096x64, .f32⟩
  | 77 => ⟨S16x4096x64, .f32⟩
  | 78 => ⟨S1x1x64, .f32⟩
  | 79 => ⟨S16x4096x64, .f32⟩
  | 80 => ⟨S16x4096x64, .f32⟩
  | 81 => ⟨S1x1x64, .f32⟩
  | 82 => ⟨S16x4096x64, .f32⟩
  | 83 => ⟨S16x4096x64, .f32⟩
  | 84 => ⟨S_, .f32⟩
  | 85 => ⟨S16x4096x64, .f32⟩
  | 86 => ⟨S16x4096x64, .f32⟩
  | 87 => ⟨S16x4096x32, .f32⟩
  | 88 => ⟨S1x1x32, .f32⟩
  | 89 => ⟨S16x4096x32, .f32⟩
  | 90 => ⟨S16x4096x32, .f32⟩
  | 91 => ⟨S_, .f32⟩
  | 92 => ⟨S16x4096, .f32⟩
  | 93 => ⟨S16x4096x1, .f32⟩
  | 94 => ⟨S_, .f32⟩
  | 95 => ⟨S16x4096x1, .f32⟩
  | 96 => ⟨S16x4096x1, .f32⟩
  | 97 => ⟨S16x4096x32, .f32⟩
  | 98 => ⟨S16x4096x32, .f32⟩
  | 99 => ⟨S16x4096x32, .f32⟩
  | 100 => ⟨S_, .f32⟩
  | 101 => ⟨S16x4096, .f32⟩
  | 102 => ⟨S16x4096x1, .f32⟩
  | 103 => ⟨S_, .f32⟩
  | 104 => ⟨S16x4096x1, .f32⟩
  | 105 => ⟨S16x4096x1, .f32⟩
  | 106 => ⟨S16x4096x32, .f32⟩
  | 107 => ⟨S16x4096x32, .f32⟩
  | 108 => ⟨S_, .f32⟩
  | 109 => ⟨S16x4096x1, .f32⟩
  | 110 => ⟨S16x4096x1, .f32⟩
  | 111 => ⟨S16x4096x1, .f32⟩
  | 112 => ⟨S16x4096x32, .f32⟩
  | 113 => ⟨S16x4096x32, .f32⟩
  | 114 => ⟨S1x1x32, .f32⟩
  | 115 => ⟨S16x4096x32, .f32⟩
  | 116 => ⟨S16x4096x32, .f32⟩
  | 117 => ⟨S1x1x32, .f32⟩
  | 118 => ⟨S16x4096x32, .f32⟩
  | 119 => ⟨S16x4096x32, .f32⟩
  | 120 => ⟨S_, .f32⟩
  | 121 => ⟨S16x4096x32, .f32⟩
  | 122 => ⟨S16x4096x32, .f32⟩
  | 123 => ⟨S16x32, .f32⟩
  | 124 => ⟨S_, .f32⟩
  | 125 => ⟨S16, .f32⟩
  | 126 => ⟨S16x1, .f32⟩
  | 127 => ⟨S_, .f32⟩
  | _ => ⟨S16x4096, .f32⟩

abbrev hbmTy0_1 (i : Nat) : BufTy := match i % 128 with
  | 0 => ⟨S16x1, .f32⟩
  | 1 => ⟨S16x1, .i1⟩
  | 2 => ⟨S_, .f32⟩
  | 3 => ⟨S16, .f32⟩
  | 4 => ⟨S16, .f32⟩
  | 5 => ⟨S16x1, .f32⟩
  | 6 => ⟨S16x32, .f32⟩
  | 7 => ⟨S16x32, .f32⟩
  | 8 => ⟨S_, .f32⟩
  | 9 => ⟨S_, .f32⟩
  | 10 => ⟨S16x32, .i1⟩
  | 11 => ⟨S16x32, .f32⟩
  | 12 => ⟨S16x32, .f32⟩
  | 13 => ⟨S16x128, .f32⟩
  | 14 => ⟨S1x128, .f32⟩
  | 15 => ⟨S16x128, .f32⟩
  | 16 => ⟨S16x128, .f32⟩
  | 17 => ⟨S_, .f32⟩
  | 18 => ⟨S16, .f32⟩
  | 19 => ⟨S16x1, .f32⟩
  | 20 => ⟨S_, .f32⟩
  | 21 => ⟨S16x1, .f32⟩
  | 22 => ⟨S16x1, .f32⟩
  | 23 => ⟨S16x128, .f32⟩
  | 24 => ⟨S16x128, .f32⟩
  | 25 => ⟨S16x128, .f32⟩
  | 26 => ⟨S_, .f32⟩
  | 27 => ⟨S16, .f32⟩
  | 28 => ⟨S16x1, .f32⟩
  | 29 => ⟨S_, .f32⟩
  | 30 => ⟨S16x1, .f32⟩
  | 31 => ⟨S16x1, .f32⟩
  | 32 => ⟨S16x128, .f32⟩
  | 33 => ⟨S16x128, .f32⟩
  | 34 => ⟨S_, .f32⟩
  | 35 => ⟨S16x1, .f32⟩
  | 36 => ⟨S16x1, .f32⟩
  | 37 => ⟨S16x1, .f32⟩
  | 38 => ⟨S16x128, .f32⟩
  | 39 => ⟨S16x128, .f32⟩
  | 40 => ⟨S1x128, .f32⟩
  | 41 => ⟨S16x128, .f32⟩
  | 42 => ⟨S16x128, .f32⟩
  | 43 => ⟨S1x128, .f32⟩
  | 44 => ⟨S16x128, .f32⟩
  | 45 => ⟨S16x128, .f32⟩
  | 46 => ⟨S_, .f32⟩
  | 47 => ⟨S16x128, .f32⟩
  | 48 => ⟨S16x128, .f32⟩
  | 49 => ⟨S16x64, .f32⟩
  | 50 => ⟨S1x64, .f32⟩
  | 51 => ⟨S16x64, .f32⟩
  | 52 => ⟨S16x64, .f32⟩
  | 53 => ⟨S_, .f32⟩
  | 54 => ⟨S16, .f32⟩
  | 55 => ⟨S16x1, .f32⟩
  | 56 => ⟨S_, .f32⟩
  | 57 => ⟨S16x1, .f32⟩
  | 58 => ⟨S16x1, .f32⟩
  | 59 => ⟨S16x64, .f32⟩
  | 60 => ⟨S16x64, .f32⟩
  | 61 => ⟨S16x64, .f32⟩
  | 62 => ⟨S_, .f32⟩
  | 63 => ⟨S16, .f32⟩
  | 64 => ⟨S16x1, .f32⟩
  | 65 => ⟨S_, .f32⟩
  | 66 => ⟨S16x1, .f32⟩
  | 67 => ⟨S16x1, .f32⟩
  | 68 => ⟨S16x64, .f32⟩
  | 69 => ⟨S16x64, .f32⟩
  | 70 => ⟨S_, .f32⟩
  | 71 => ⟨S16x1, .f32⟩
  | 72 => ⟨S16x1, .f32⟩
  | 73 => ⟨S16x1, .f32⟩
  | 74 => ⟨S16x64, .f32⟩
  | 75 => ⟨S16x64, .f32⟩
  | 76 => ⟨S1x64, .f32⟩
  | 77 => ⟨S16x64, .f32⟩
  | 78 => ⟨S16x64, .f32⟩
  | 79 => ⟨S1x64, .f32⟩
  | 80 => ⟨S16x64, .f32⟩
  | 81 => ⟨S16x64, .f32⟩
  | 82 => ⟨S_, .f32⟩
  | 83 => ⟨S16x64, .f32⟩
  | 84 => ⟨S16x64, .f32⟩
  | 85 => ⟨S16x32, .f32⟩
  | 86 => ⟨S16x32, .f32⟩
  | _ => ⟨S16x4096, .f32⟩

abbrev hbmTy (i : Nat) : BufTy := match i / 128 with
  | 0 => hbmTy0_0 i
  | 1 => hbmTy0_1 i
  | _ => ⟨S16x4096, .f32⟩

abbrev bufTy : (tb : Table) → Fin (tcTables nBuf tb) → BufTy
  | .hbm, ⟨i, _⟩ => hbmTy i
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v1 : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_cst : Ref sig .tc := ⟨.hbm, 55, rfl⟩
abbrev main_v12 : Ref sig .tc := ⟨.hbm, 56, rfl⟩
abbrev main_v13 : Ref sig .tc := ⟨.hbm, 57, rfl⟩
abbrev main_cst_0 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_cst_1 : Ref sig .tc := ⟨.hbm, 64, rfl⟩
abbrev main_v19 : Ref sig .tc := ⟨.hbm, 65, rfl⟩
abbrev main_v20 : Ref sig .tc := ⟨.hbm, 66, rfl⟩
abbrev main_cst_2 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_cst_3 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_call1_cst : Ref sig .tc := ⟨.hbm, 84, rfl⟩
abbrev main_call1_v0 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_4 : Ref sig .tc := ⟨.hbm, 91, rfl⟩
abbrev main_v41 : Ref sig .tc := ⟨.hbm, 92, rfl⟩
abbrev main_v42 : Ref sig .tc := ⟨.hbm, 93, rfl⟩
abbrev main_cst_5 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_cst_6 : Ref sig .tc := ⟨.hbm, 100, rfl⟩
abbrev main_v48 : Ref sig .tc := ⟨.hbm, 101, rfl⟩
abbrev main_v49 : Ref sig .tc := ⟨.hbm, 102, rfl⟩
abbrev main_cst_7 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_8 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_call2_cst : Ref sig .tc := ⟨.hbm, 120, rfl⟩
abbrev main_call2_v0 : Ref sig .tc := ⟨.hbm, 121, rfl⟩
abbrev main_v65 : Ref sig .tc := ⟨.hbm, 122, rfl⟩
abbrev main_v66 : Ref sig .tc := ⟨.hbm, 123, rfl⟩
abbrev main_cst_9 : Ref sig .tc := ⟨.hbm, 124, rfl⟩
abbrev main_v67 : Ref sig .tc := ⟨.hbm, 125, rfl⟩
abbrev main_v68 : Ref sig .tc := ⟨.hbm, 126, rfl⟩
abbrev main_cst_10 : Ref sig .tc := ⟨.hbm, 127, rfl⟩
abbrev main_v69 : Ref sig .tc := ⟨.hbm, 128, rfl⟩
abbrev main_v70 : Ref sig .tc := ⟨.hbm, 129, rfl⟩
abbrev main_cst_11 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_cst_12 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_cst_13 : Ref sig .tc := ⟨.hbm, 145, rfl⟩
abbrev main_v81 : Ref sig .tc := ⟨.hbm, 146, rfl⟩
abbrev main_v82 : Ref sig .tc := ⟨.hbm, 147, rfl⟩
abbrev main_cst_14 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_cst_15 : Ref sig .tc := ⟨.hbm, 154, rfl⟩
abbrev main_v88 : Ref sig .tc := ⟨.hbm, 155, rfl⟩
abbrev main_v89 : Ref sig .tc := ⟨.hbm, 156, rfl⟩
abbrev main_cst_16 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_cst_17 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_call4_cst : Ref sig .tc := ⟨.hbm, 174, rfl⟩
abbrev main_call4_v0 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_cst_18 : Ref sig .tc := ⟨.hbm, 181, rfl⟩
abbrev main_v110 : Ref sig .tc := ⟨.hbm, 182, rfl⟩
abbrev main_v111 : Ref sig .tc := ⟨.hbm, 183, rfl⟩
abbrev main_cst_19 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_cst_20 : Ref sig .tc := ⟨.hbm, 190, rfl⟩
abbrev main_v117 : Ref sig .tc := ⟨.hbm, 191, rfl⟩
abbrev main_v118 : Ref sig .tc := ⟨.hbm, 192, rfl⟩
abbrev main_cst_21 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_cst_22 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_call5_cst : Ref sig .tc := ⟨.hbm, 210, rfl⟩
abbrev main_call5_v0 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩

abbrev nD : Nat := 1
abbrev τ : Topo := Topo.v7x

variable {F : FTy → Type} [FloatOps F]
-- ==== Proof.Reals.lean ====
/- Real-number facts of the encoder: centring, normalising, and how the extended-real operations act on reals. -/
module

public import Idealize.ShloMosaic.PureOps.Ideal.Laws
public import Idealize.ShloMosaic.Lib.Pointwise

@[expose] public section

noncomputable section

namespace Cert.Reals

open Idealize.ShloMosaic

/-! ## Constants -/

/-- The number added under the root: the f32 nearest to 1e-5. -/
def eps : ℝ := 10995116 / 1099511627776

theorem eps_pos : 0 < eps := by unfold eps; norm_num

theorem bits_eps : Ideal.ofBits .f32 0x3727C5AC#32 = ((eps : ℝ) : EReal) := by
  simp [Ideal.ofBits, Ideal.ieee, eps, -EReal.coe_mul]; norm_num
theorem bits_64 : Ideal.ofBits .f32 0x42800000#32 = (((64 : ℕ) : ℝ) : EReal) := by
  simp [Ideal.ofBits, Ideal.ieee, -EReal.coe_mul]; norm_num
theorem bits_32 : Ideal.ofBits .f32 0x42000000#32 = (((32 : ℕ) : ℝ) : EReal) := by
  simp [Ideal.ofBits, Ideal.ieee, -EReal.coe_mul]; norm_num
theorem bits_128 : Ideal.ofBits .f32 0x43000000#32 = (((128 : ℕ) : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_inf : Ideal.ofBits .f32 0x7F800000#32 = (⊤ : EReal) := by
  simp [Ideal.ofBits, Ideal.ieee]

/-! ## Extended-real operations at reals -/

theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem sum_eq_coe {ι : Type} [Fintype ι] {F : ι → EReal} {f : ι → ℝ} (h : ∀ i, F i = ((f i : ℝ) : EReal)) :
    (∑ i, F i) = ((∑ i, f i : ℝ) : EReal) := by
  rw [← sum_coe]; exact Finset.sum_congr rfl fun i _ => h i

theorem div_real {y : ℝ} (hy : y ≠ 0) (x : ℝ) : Ideal.div (x : EReal) (y : EReal) = ((x / y : ℝ) : EReal) := by
  rw [Ideal.div_coe hy, ← EReal.coe_mul, mul_one_div]

theorem max_real (x y : ℝ) : max (x : EReal) (y : EReal) = ((max x y : ℝ) : EReal) :=
  (EReal.coe_strictMono.monotone.map_max).symm

theorem max_zero (x : ℝ) : max (x : EReal) 0 = ((max x 0 : ℝ) : EReal) := by
  rw [← EReal.coe_zero, max_real]

theorem rsqrt_real {x : ℝ} (h : 0 < x) : Ideal.rsqrt (x : EReal) = (((Real.sqrt x)⁻¹ : ℝ) : EReal) := by
  rw [Ideal.rsqrt_coe, if_neg (not_lt.2 h.le), if_neg h.ne']

theorem sqrt_real {x : ℝ} (h : 0 ≤ x) : Ideal.sqrt (x : EReal) = ((Real.sqrt x : ℝ) : EReal) := by
  rw [Ideal.sqrt_coe, if_neg (not_lt.2 h)]

/-! ## Centring -/

variable {n : ℕ}

/-- The mean of `n` reals. -/
def mean (z : Fin n → ℝ) : ℝ := (∑ k, z k) / (n : ℝ)

/-- Each number less the mean. -/
def cen (z : Fin n → ℝ) (k : Fin n) : ℝ := z k - mean z

/-- The root of the mean square of the centred numbers, `eps` added under the root. -/
def sd (z : Fin n → ℝ) : ℝ := Real.sqrt ((∑ k, cen z k * cen z k) / (n : ℝ) + eps)

/-- The normalised numbers. -/
def nrm (z : Fin n → ℝ) (k : Fin n) : ℝ := cen z k * (sd z)⁻¹

/-- Normalised, scaled, shifted, cut at zero. -/
def layer (z g b : Fin n → ℝ) (k : Fin n) : ℝ := max (nrm z k * g k + b k) 0

theorem var_nonneg (q : Fin n → ℝ) : 0 ≤ (∑ k, q k * q k) / (n : ℝ) :=
  div_nonneg (Finset.sum_nonneg fun k _ => mul_self_nonneg _) (Nat.cast_nonneg _)

theorem var_pos (q : Fin n → ℝ) : 0 < (∑ k, q k * q k) / (n : ℝ) + eps :=
  add_pos_of_nonneg_of_pos (var_nonneg q) eps_pos

theorem sd_pos (z : Fin n → ℝ) : 0 < sd z := Real.sqrt_pos.2 (var_pos _)

theorem mean_add (a b : Fin n → ℝ) : mean (fun k => a k + b k) = mean a + mean b := by
  unfold mean; rw [Finset.sum_add_distrib, add_div]

theorem mean_smul (c : ℝ) (a : Fin n → ℝ) : mean (fun k => c * a k) = c * mean a := by
  unfold mean; rw [← Finset.mul_sum, mul_div_assoc]

theorem cen_add (a b : Fin n → ℝ) (k : Fin n) : cen (fun k => a k + b k) k = cen a k + cen b k := by
  unfold cen; rw [mean_add]; ring

theorem cen_smul (c : ℝ) (a : Fin n → ℝ) (k : Fin n) : cen (fun k => c * a k) k = c * cen a k := by
  unfold cen; rw [mean_smul]; ring

theorem cen_sum {m : ℕ} (c : Fin m → ℝ) (W : Fin m → Fin n → ℝ) (k : Fin n) :
    cen (fun k => ∑ i, c i * W i k) k = ∑ i, c i * cen (W i) k := by
  unfold cen mean
  rw [Finset.sum_comm, Finset.sum_div, ← Finset.sum_sub_distrib]
  exact Finset.sum_congr rfl fun i _ => by rw [← Finset.mul_sum]; ring

/-- A centred affine map is the affine map of the centred matrix and the centred shift. -/
theorem cen_affine {m : ℕ} (c : Fin m → ℝ) (W : Fin m → Fin n → ℝ) (b : Fin n → ℝ) (k : Fin n) :
    cen (fun k => (∑ i, c i * W i k) + b k) k = (∑ i, cen (W i) k * c i) + cen b k := by
  rw [cen_add, cen_sum]; exact congrArg (· + _) (Finset.sum_congr rfl fun i _ => mul_comm _ _)

/-- The mean square of `u + x w`, expanded in `x`. -/
theorem meansq_expand (u w : Fin n → ℝ) (x : ℝ) :
    (∑ k, (u k + x * w k) * (u k + x * w k)) / (n : ℝ)
      = (∑ k, u k * u k) / (n : ℝ) + x * (2 * ((∑ k, u k * w k) / (n : ℝ)) + x * ((∑ k, w k * w k) / (n : ℝ))) := by
  have h : (∑ k, (u k + x * w k) * (u k + x * w k))
      = (∑ k, u k * u k) + x * (2 * (∑ k, u k * w k)) + x * (x * (∑ k, w k * w k)) := by
    simp only [Finset.mul_sum, ← Finset.sum_add_distrib]
    exact Finset.sum_congr rfl fun k _ => by ring
  rw [h]; ring

/-! ## Normalising, in the two programs' forms -/

variable {Z P : Fin n → EReal} {z : Fin n → ℝ} {N E : EReal}

theorem mean_ereal (hn : (n : ℝ) ≠ 0) (hZ : ∀ k, Z k = ((z k : ℝ) : EReal)) (hN : N = ((n : ℝ) : EReal)) :
    Ideal.div (∑ k, Z k) N = ((mean z : ℝ) : EReal) := by
  rw [sum_eq_coe hZ, hN, div_real hn]; rfl

theorem cen_ereal (hn : (n : ℝ) ≠ 0) (hZ : ∀ k, Z k = ((z k : ℝ) : EReal)) (hN : N = ((n : ℝ) : EReal)) (k : Fin n) :
    Z k - Ideal.div (∑ k, Z k) N = ((cen z k : ℝ) : EReal) := by
  rw [mean_ereal hn hZ hN, hZ, ← EReal.coe_sub]; rfl

theorem meansq_ereal (hn : (n : ℝ) ≠ 0) (hZ : ∀ k, Z k = ((z k : ℝ) : EReal)) (hN : N = ((n : ℝ) : EReal)) :
    Ideal.div (∑ k, Z k * Z k) N = (((∑ k, z k * z k) / (n : ℝ) : ℝ) : EReal) := by
  rw [sum_eq_coe (f := fun k => z k * z k) fun k => by rw [hZ, ← EReal.coe_mul], hN, div_real hn]

/-- The reference's form: centred numbers divided by the root. -/
theorem nrm_ref (hn : (n : ℝ) ≠ 0) (hP : ∀ k, P k = ((cen z k : ℝ) : EReal)) (hN : N = ((n : ℝ) : EReal))
    (hE : E = ((eps : ℝ) : EReal)) (k : Fin n) :
    Ideal.div (P k) (Ideal.sqrt (Ideal.div (∑ l, P l * P l) N + E)) = ((nrm z k : ℝ) : EReal) := by
  rw [meansq_ereal hn hP hN, hE, ← EReal.coe_add, sqrt_real (var_pos _).le, hP]
  exact div_real (sd_pos z).ne' _

/-- The kernel's form: the inverse root. -/
theorem inv_ker (hn : (n : ℝ) ≠ 0) (hP : ∀ k, P k = ((cen z k : ℝ) : EReal)) (hN : N = ((n : ℝ) : EReal))
    (hE : E = ((eps : ℝ) : EReal)) :
    Ideal.rsqrt (Ideal.div (∑ l, P l * P l) N + E) = (((sd z)⁻¹ : ℝ) : EReal) := by
  rw [meansq_ereal hn hP hN, hE, ← EReal.coe_add, rsqrt_real (var_pos _)]; rfl

theorem nrm_ker (hn : (n : ℝ) ≠ 0) (hP : ∀ k, P k = ((cen z k : ℝ) : EReal)) (hN : N = ((n : ℝ) : EReal))
    (hE : E = ((eps : ℝ) : EReal)) (G : EReal) (k : Fin n) :
    P k * (Ideal.rsqrt (Ideal.div (∑ l, P l * P l) N + E) * G) = ((nrm z k : ℝ) : EReal) * G := by
  rw [inv_ker hn hP hN hE, ← mul_assoc, hP, ← EReal.coe_mul]; rfl

/-- Scaling, shifting and cutting a real. -/
theorem layer_ereal {g b : Fin n → ℝ} (k : Fin n) :
    max (((nrm z k : ℝ) : EReal) * ((g k : ℝ) : EReal) + ((b k : ℝ) : EReal)) 0 = ((layer z g b k : ℝ) : EReal) := by
  rw [← EReal.coe_mul, ← EReal.coe_add, max_zero]; rfl

/-- A masked mean: the sum over the count where that is positive. -/
theorem mean_masked (n s : ℝ) :
    (if (0 : EReal) < (n : EReal) then Ideal.div (s : EReal) (max (n : EReal) 1) else 0)
      = ((if 0 < n then s / max n 1 else 0 : ℝ) : EReal) := by
  by_cases h : 0 < n
  · rw [if_pos (EReal.coe_pos.2 h), if_pos h, ← EReal.coe_one, max_real,
      div_real (lt_of_lt_of_le one_pos (le_max_right n 1)).ne']
  · rw [if_neg fun e => h (EReal.coe_pos.1 e), if_neg h, EReal.coe_zero]

end Cert.Reals

end
-- ==== Proof.Layer.lean ====
/- An affine map of reals by a matrix and a shift that may be infinite, then normalised. The reference centres the product,
   the kernel the matrix and the shift; an infinity that counts makes every centred number infinite in both, the variance
   infinite, and the normalised numbers zero. -/
module

public import proofs.«01_k».proof.Proof.Reals

@[expose] public section

noncomputable section

namespace Cert.Reals

open Idealize.ShloMosaic

/-! ## Infinite extended reals -/

/-- Not a real. -/
def Infinite (x : EReal) : Prop := x = ⊤ ∨ x = ⊥

theorem real_of_not_infinite {x : EReal} (h : ¬ Infinite x) : x = ((x.toReal : ℝ) : EReal) :=
  (EReal.coe_toReal (fun e => h (.inl e)) (fun e => h (.inr e))).symm

theorem not_infinite_coe (r : ℝ) : ¬ Infinite (r : EReal) := by
  rintro (h | h)
  · exact EReal.coe_ne_top r h
  · exact EReal.coe_ne_bot r h

theorem Infinite.add_right {x : EReal} (h : Infinite x) (y : EReal) : Infinite (x + y) := by
  rcases h with rfl | rfl
  · by_cases hy : y = ⊥
    · right; rw [hy, EReal.add_bot]
    · left; exact EReal.top_add_of_ne_bot hy
  · right; exact EReal.bot_add y

theorem Infinite.add_left {x : EReal} (h : Infinite x) (y : EReal) : Infinite (y + x) := by
  rw [add_comm]; exact h.add_right y

theorem Infinite.neg {x : EReal} (h : Infinite x) : Infinite (-x) := by
  rcases h with rfl | rfl
  · right; exact EReal.neg_top
  · left; exact EReal.neg_bot

theorem Infinite.sub_left {x : EReal} (h : Infinite x) (y : EReal) : Infinite (y - x) := by
  rw [sub_eq_add_neg]; exact h.neg.add_left y

theorem Infinite.mul_real {x : EReal} (h : Infinite x) {r : ℝ} (hr : r ≠ 0) : Infinite (x * (r : EReal)) := by
  rcases lt_or_gt_of_ne hr with h0 | h0
  · rcases h with rfl | rfl
    · right; exact EReal.top_mul_coe_of_neg h0
    · left; exact EReal.bot_mul_coe_of_neg h0
  · rcases h with rfl | rfl
    · left; exact EReal.top_mul_coe_of_pos h0
    · right; exact EReal.bot_mul_coe_of_pos h0

theorem Infinite.mul_self {x : EReal} (h : Infinite x) : x * x = ⊤ := by
  rcases h with rfl | rfl
  · exact EReal.top_mul_top
  · exact EReal.bot_mul_bot

theorem Infinite.sum {ι : Type} [Fintype ι] {f : ι → EReal} {i : ι} (h : Infinite (f i)) : Infinite (∑ i, f i) := by
  classical
  rw [← Finset.add_sum_erase _ f (Finset.mem_univ i)]
  exact h.add_right _

theorem Infinite.div_real {x : EReal} (h : Infinite x) {y : ℝ} (hy : y ≠ 0) : Infinite (Ideal.div x (y : EReal)) := by
  rw [Ideal.div_coe hy]; exact h.mul_real (one_div_ne_zero hy)

/-! ## Centring and normalising extended reals -/

variable {m n : ℕ}

/-- Each number less the mean. -/
def cenE (Z : Fin n → EReal) (k : Fin n) : EReal := Z k - Ideal.div (∑ l, Z l) (((n : ℕ) : ℝ) : EReal)

open Classical in
/-- The normalised numbers: zero when some number is infinite. -/
def nrmE (Z : Fin n → EReal) (k : Fin n) : ℝ := if ∃ l, Infinite (Z l) then 0 else nrm (fun l => (Z l).toReal) k

/-- Normalised, scaled, shifted, cut at zero. -/
def layerE (Z : Fin n → EReal) (g b : Fin n → ℝ) (k : Fin n) : ℝ := max (nrmE Z k * g k + b k) 0

theorem layerE_coe {Z : Fin n → EReal} {g b : Fin n → ℝ} (k : Fin n) :
    max (((nrmE Z k : ℝ) : EReal) * ((g k : ℝ) : EReal) + ((b k : ℝ) : EReal)) 0 = ((layerE Z g b k : ℝ) : EReal) := by
  rw [← EReal.coe_mul, ← EReal.coe_add, max_zero]; rfl

/-- The affine map, and the kernel's form of it less its mean. -/
def aff (h : Fin m → ℝ) (W : Fin m → Fin n → EReal) (b : Fin n → EReal) (k : Fin n) : EReal :=
  (∑ i, ((h i : ℝ) : EReal) * W i k) + b k
def affC (h : Fin m → ℝ) (W : Fin m → Fin n → EReal) (b : Fin n → EReal) (k : Fin n) : EReal :=
  (∑ i, cenE (W i) k * ((h i : ℝ) : EReal)) + cenE b k

/-- One infinite number makes all centred numbers infinite. -/
theorem infinite_cenE (hn : (n : ℝ) ≠ 0) {Z : Fin n → EReal} {l : Fin n} (h : Infinite (Z l)) (k : Fin n) :
    Infinite (cenE Z k) :=
  ((Infinite.sum (f := Z) h).div_real hn).sub_left _

theorem cenE_of {Z Y : Fin n → EReal} {N : EReal} (h : ∀ k, Z k = Y k) (hN : N = (((n : ℕ) : ℝ) : EReal)) (k : Fin n) :
    Z k - Ideal.div (∑ l, Z l) N = cenE Y k := by
  rw [hN, funext h]; rfl

theorem cenE_coe (hn : (n : ℝ) ≠ 0) {Z : Fin n → EReal} {z : Fin n → ℝ} (h : ∀ k, Z k = ((z k : ℝ) : EReal)) (k : Fin n) :
    cenE Z k = ((cen z k : ℝ) : EReal) := cen_ereal hn h rfl k

/-- Infinite numbers have an infinite mean square. -/
theorem meansq_top {P : Fin n → EReal} (hn : (n : ℝ) ≠ 0) (hP : ∀ k, Infinite (P k)) (k : Fin n) :
    Ideal.div (∑ l, P l * P l) (((n : ℕ) : ℝ) : EReal) + ((eps : ℝ) : EReal) = ⊤ := by
  have h0 : (0 : ℝ) < 1 / ((n : ℕ) : ℝ) := one_div_pos.2 (lt_of_le_of_ne (Nat.cast_nonneg n) hn.symm)
  have hs : (∑ l, P l * P l) = ⊤ := by
    refine (Infinite.sum (f := fun l => P l * P l) (i := k) (.inl (hP k).mul_self)).resolve_right fun e => ?_
    have : (0 : EReal) ≤ ∑ l, P l * P l := Finset.sum_nonneg fun l _ => by rw [(hP l).mul_self]; exact le_top
    rw [e] at this
    exact absurd this (not_le.2 EReal.bot_lt_zero)
  rw [hs, Ideal.div_coe hn, EReal.top_mul_coe_of_pos h0]
  exact EReal.top_add_of_ne_bot (EReal.coe_ne_bot eps)

variable {N E : EReal}

/-- The reference's normalised numbers. -/
theorem nrmE_ref (hn : (n : ℝ) ≠ 0) {Z P : Fin n → EReal} (hP : ∀ k, P k = cenE Z k) (hN : N = (((n : ℕ) : ℝ) : EReal))
    (hE : E = ((eps : ℝ) : EReal)) (k : Fin n) :
    Ideal.div (P k) (Ideal.sqrt (Ideal.div (∑ l, P l * P l) N + E)) = ((nrmE Z k : ℝ) : EReal) := by
  unfold nrmE
  split_ifs with h
  · obtain ⟨l, hl⟩ := h
    rw [hN, hE, meansq_top hn (fun k => by rw [hP]; exact infinite_cenE hn hl k) k, Ideal.sqrt_top, Ideal.div,
      if_neg EReal.top_ne_zero, EReal.inv_top, mul_zero, EReal.coe_zero]
  · exact nrm_ref hn (fun k => (hP k).trans (cenE_coe hn (fun l => real_of_not_infinite fun e => h ⟨l, e⟩) k)) hN hE k

/-- The kernel's normalised numbers, scaled: they are the affine map's. -/
theorem nrmE_ker (hn : (n : ℝ) ≠ 0) {h : Fin m → ℝ} {W : Fin m → Fin n → EReal} {b P : Fin n → EReal}
    (hP : ∀ k, P k = affC h W b k) (hN : N = (((n : ℕ) : ℝ) : EReal)) (hE : E = ((eps : ℝ) : EReal)) (G : EReal) (k : Fin n) :
    P k * (Ideal.rsqrt (Ideal.div (∑ l, P l * P l) N + E) * G) = ((nrmE (aff h W b) k : ℝ) : EReal) * G := by
  by_cases hi : (∃ l, Infinite (b l)) ∨ ∃ i l, h i ≠ 0 ∧ Infinite (W i l)
  · have h1 : ∃ l, Infinite (aff h W b l) := by
      rcases hi with ⟨l, hl⟩ | ⟨i, l, h0, hl⟩
      · exact ⟨l, hl.add_left _⟩
      · refine ⟨l, (Infinite.sum (f := fun i => ((h i : ℝ) : EReal) * W i l) (i := i) ?_).add_right _⟩
        show Infinite (((h i : ℝ) : EReal) * W i l)
        rw [mul_comm]; exact hl.mul_real h0
    have h2 : ∀ k, Infinite (P k) := fun k => by
      rw [hP]
      rcases hi with ⟨l, hl⟩ | ⟨i, l, h0, hl⟩
      · exact (infinite_cenE hn hl k).add_left _
      · exact (Infinite.sum (f := fun i => cenE (W i) k * ((h i : ℝ) : EReal)) (i := i)
          ((infinite_cenE hn hl k).mul_real h0)).add_right _
    unfold nrmE
    rw [if_pos h1, hN, hE, meansq_top hn h2 k, Ideal.rsqrt_top, zero_mul, mul_zero, EReal.coe_zero, zero_mul]
  · have hb : ∀ l, b l = (((b l).toReal : ℝ) : EReal) := fun l => real_of_not_infinite fun e => hi (.inl ⟨l, e⟩)
    have hW : ∀ i, h i ≠ 0 → ∀ l, W i l = (((W i l).toReal : ℝ) : EReal) := fun i h0 l =>
      real_of_not_infinite fun e => hi (.inr ⟨i, l, h0, e⟩)
    have ha : ∀ l, aff h W b l = (((∑ i, h i * (W i l).toReal) + (b l).toReal : ℝ) : EReal) := fun l => by
      unfold aff
      rw [EReal.coe_add, ← hb]
      refine congrArg (· + _) (sum_eq_coe fun i => ?_)
      by_cases h0 : h i = 0
      · rw [h0, EReal.coe_zero, zero_mul, zero_mul, EReal.coe_zero]
      · rw [EReal.coe_mul, ← hW i h0]
    have hp : ∀ k, P k = ((cen (fun l => (∑ i, h i * (W i l).toReal) + (b l).toReal) k : ℝ) : EReal) := fun k => by
      rw [hP, cen_affine h (fun i l => (W i l).toReal) (fun l => (b l).toReal), EReal.coe_add, ← cenE_coe hn hb]
      refine congrArg (· + _) (sum_eq_coe fun i => ?_)
      by_cases h0 : h i = 0
      · rw [h0, EReal.coe_zero, mul_zero, mul_zero, EReal.coe_zero]
      · rw [EReal.coe_mul, ← cenE_coe hn (hW i h0)]
    have hz : ¬ ∃ l, Infinite (aff h W b l) := fun ⟨l, e⟩ => by rw [ha] at e; exact not_infinite_coe _ e
    unfold nrmE
    rw [if_neg hz, nrm_ker hn hp hN hE]
    simp only [ha, EReal.toReal_coe]

end Cert.Reals

end
-- ==== Proof.Net.lean ====
/- The encoder as one function: its inputs, its stages, and what its two results are. -/
module

public import proofs.«01_k».proof.Proof.Layer

@[expose] public section

noncomputable section

namespace Cert.Net

open Cert.Reals Idealize.ShloMosaic

/-- The inputs: reals, but for the matrices and shifts after the first layer and the last layer's scale and offset, which
    may be infinite; `ix j` is the table row that junction `j` names. -/
structure In where
  x : Fin 16 → Fin 4096 → ℝ
  msk : Fin 16 → Fin 4096 → ℝ
  fe : Fin 4096 → Fin 32 → ℝ
  ae : Fin 512 → Fin 16 → ℝ
  ix : Fin 4096 → Fin 512
  W1 : Fin 49 → Fin 64 → ℝ
  b1 : Fin 64 → ℝ
  g1 : Fin 64 → ℝ
  be1 : Fin 64 → ℝ
  W2 : Fin 64 → Fin 32 → EReal
  b2 : Fin 32 → EReal
  g2 : Fin 32 → ℝ
  be2 : Fin 32 → ℝ
  Wm1 : Fin 32 → Fin 128 → EReal
  bm1 : Fin 128 → EReal
  gm1 : Fin 128 → ℝ
  bem1 : Fin 128 → ℝ
  Wm2 : Fin 128 → Fin 64 → EReal
  bm2 : Fin 64 → EReal
  gm2 : Fin 64 → EReal
  bem2 : Fin 64 → EReal

variable (A : In)

/-- Row `1 + d` of the first matrix: the one for feature `d`. -/
abbrev rowF (d : Fin 32) : Fin 49 := ⟨1 + d.val, by have := d.isLt; omega⟩
/-- Row `33 + a` of the first matrix: the one for table column `a`. -/
abbrev rowA (a : Fin 16) : Fin 49 := ⟨33 + a.val, by have := a.isLt; omega⟩

/-- The part of the first affine map that depends on the junction alone. -/
def u1 (j : Fin 4096) (k : Fin 64) : ℝ :=
  (∑ d, A.fe j d * A.W1 (rowF d) k) + (∑ a, A.ae (A.ix j) a * A.W1 (rowA a) k) + A.b1 k

/-- The first affine map. -/
def z1 (b : Fin 16) (j : Fin 4096) (k : Fin 64) : ℝ := u1 A j k + A.x b j * A.W1 0 k

def h1 (b : Fin 16) (j : Fin 4096) : Fin 64 → ℝ := layer (z1 A b j) A.g1 A.be1

/-- The second affine map. -/
def z2 (b : Fin 16) (j : Fin 4096) : Fin 32 → EReal := aff (h1 A b j) A.W2 A.b2

def h2 (b : Fin 16) (j : Fin 4096) : Fin 32 → ℝ := layerE (z2 A b j) A.g2 A.be2

/-- How many junctions of sample `b` the mask counts, and the masked sum of their features. -/
def cnt (b : Fin 16) : ℝ := ∑ j, A.msk b j
def acc (b : Fin 16) (d : Fin 32) : ℝ := ∑ j, h2 A b j d * A.msk b j

/-- The masked mean, zero where nothing is counted. -/
def c (b : Fin 16) (d : Fin 32) : ℝ := if 0 < cnt A b then acc A b d / max (cnt A b) 1 else 0

def z3 (b : Fin 16) : Fin 128 → EReal := aff (c A b) A.Wm1 A.bm1

def t1 (b : Fin 16) : Fin 128 → ℝ := layerE (z3 A b) A.gm1 A.bem1

def z4 (b : Fin 16) : Fin 64 → EReal := aff (t1 A b) A.Wm2 A.bm2

/-- Both results side by side: columns below 32 are the first. -/
def out (b : Fin 16) (o : Fin 64) : EReal := max (((nrmE (z4 A b) o : ℝ) : EReal) * A.gm2 o + A.bem2 o) 0

/-! ## The centred first map -/

theorem cen_u1 (j : Fin 4096) (k : Fin 64) :
    cen (u1 A j) k = (∑ d, cen (A.W1 (rowF d)) k * A.fe j d)
      + (∑ a, cen (A.W1 (rowA a)) k * A.ae (A.ix j) a) + cen A.b1 k := by
  have h : u1 A j = fun k => ((fun k => (∑ d, A.fe j d * A.W1 (rowF d) k)) k
      + (fun k => ∑ a, A.ae (A.ix j) a * A.W1 (rowA a) k) k) + A.b1 k := rfl
  rw [h, cen_add (fun k => (fun k => (∑ d, A.fe j d * A.W1 (rowF d) k)) k
      + (fun k => ∑ a, A.ae (A.ix j) a * A.W1 (rowA a) k) k), cen_add, cen_sum, cen_sum]
  simp only [mul_comm]

theorem cen_z1 (b : Fin 16) (j : Fin 4096) (k : Fin 64) :
    cen (z1 A b j) k = cen (u1 A j) k + A.x b j * cen (A.W1 0) k := by
  have h : z1 A b j = fun k => u1 A j k + (fun k => A.x b j * A.W1 0 k) k := rfl
  rw [h, cen_add, cen_smul]

/-- The mean square of the centred first map, expanded in the sample's value. -/
theorem meansq_z1 (b : Fin 16) (j : Fin 4096) :
    (∑ k, cen (z1 A b j) k * cen (z1 A b j) k) / ((64 : ℕ) : ℝ)
      = (∑ k, cen (u1 A j) k * cen (u1 A j) k) / ((64 : ℕ) : ℝ)
        + A.x b j * (2 * ((∑ k, cen (u1 A j) k * cen (A.W1 0) k) / ((64 : ℕ) : ℝ))
          + A.x b j * ((∑ k, cen (A.W1 0) k * cen (A.W1 0) k) / ((64 : ℕ) : ℝ))) := by
  simp only [cen_z1]; exact meansq_expand _ _ _

end Cert.Net

end
-- ==== Proof.Args.lean ====
/- The argument arrays hold the inputs. -/
module

public import proofs.«01_k».proof.Proof.Net

@[expose] public section

noncomputable section

namespace Cert.Net
open Idealize.ShloMosaic

/-- The 21 argument arrays hold the inputs. -/
structure Args (A : In) (a0 : FVec Ideal ⟨2, ![16, 4096]⟩ .f32) (a1 : IVec ⟨2, ![16, 4096]⟩ 32)
    (a2 : FVec Ideal ⟨2, ![4096, 32]⟩ .f32) (a3 : FVec Ideal ⟨2, ![512, 16]⟩ .f32) (a4 : IVec ⟨1, ![4096]⟩ 32)
    (a5 : FVec Ideal ⟨2, ![49, 64]⟩ .f32) (a6 a7 a8 : FVec Ideal ⟨1, ![64]⟩ .f32)
    (a9 : FVec Ideal ⟨2, ![64, 32]⟩ .f32) (a10 a11 a12 : FVec Ideal ⟨1, ![32]⟩ .f32)
    (a13 : FVec Ideal ⟨2, ![32, 128]⟩ .f32) (a14 a15 a16 : FVec Ideal ⟨1, ![128]⟩ .f32)
    (a17 : FVec Ideal ⟨2, ![128, 64]⟩ .f32) (a18 a19 a20 : FVec Ideal ⟨1, ![64]⟩ .f32) : Prop where
  x : ∀ b j, a0 (ix2 b j) = ((A.x b j : ℝ) : EReal)
  msk : ∀ b j, ((a1 (ix2 b j)).toInt : ℝ) = A.msk b j
  fe : ∀ j d, a2 (ix2 j d) = ((A.fe j d : ℝ) : EReal)
  ae : ∀ i a, a3 (ix2 i a) = ((A.ae i a : ℝ) : EReal)
  ix : ∀ j, a4 (ix1 j) = BitVec.ofNat 32 (A.ix j).val
  W1 : ∀ i k, a5 (ix2 i k) = ((A.W1 i k : ℝ) : EReal)
  b1 : ∀ k, a6 (ix1 k) = ((A.b1 k : ℝ) : EReal)
  g1 : ∀ k, a7 (ix1 k) = ((A.g1 k : ℝ) : EReal)
  be1 : ∀ k, a8 (ix1 k) = ((A.be1 k : ℝ) : EReal)
  W2 : ∀ k d, a9 (ix2 k d) = A.W2 k d
  b2 : ∀ d, a10 (ix1 d) = A.b2 d
  g2 : ∀ d, a11 (ix1 d) = ((A.g2 d : ℝ) : EReal)
  be2 : ∀ d, a12 (ix1 d) = ((A.be2 d : ℝ) : EReal)
  Wm1 : ∀ d e, a13 (ix2 d e) = A.Wm1 d e
  bm1 : ∀ e, a14 (ix1 e) = A.bm1 e
  gm1 : ∀ e, a15 (ix1 e) = ((A.gm1 e : ℝ) : EReal)
  bem1 : ∀ e, a16 (ix1 e) = ((A.bem1 e : ℝ) : EReal)
  Wm2 : ∀ e o, a17 (ix2 e o) = A.Wm2 e o
  bm2 : ∀ o, a18 (ix1 o) = A.bm2 o
  gm2 : ∀ o, a19 (ix1 o) = A.gm2 o
  bem2 : ∀ o, a20 (ix1 o) = A.bem2 o

end Cert.Net

end
-- ==== Proof.PayWeights.lean ====
/- What the kernel makes of its weights before the data come in: each matrix and shift centred, each row turned into a
   column. Every lemma reads one named value at an index, its loads being real. -/
module

public import proofs.«01_k».proof.Proof.Gen.KernelIdeal.Skeleton
public import proofs.«01_k».proof.Proof.Net
public import Idealize.ShloMosaic.Lib.Pointwise

@[expose] public section

set_option maxRecDepth 16384

noncomputable section

namespace Cert.KernelIdeal.Pay
open Cert.KernelIdeal Cert.KernelIdeal.Gen Cert.Reals Idealize.ShloMosaic Idealize.ShloMosaic.TcCoe Idealize.SL.Sem

theorem n64 : ((64 : ℕ) : ℝ) ≠ 0 := by norm_num
theorem n32 : ((32 : ℕ) : ℝ) ≠ 0 := by norm_num
theorem n128 : ((128 : ℕ) : ℝ) ≠ 0 := by norm_num

/-! ## The first layer -/

section
variable {v0 : Vec Ideal S49x64 .f32} {W : Fin 49 → Fin 64 → ℝ} (h : ∀ i k, v0 (ix2 i k) = ((W i k : ℝ) : EReal))
include h

theorem pay2_at (i : Fin 49) (k : Fin 64) : k0_pay2 v0 (ix2 i k) = ((cen (W i) k : ℝ) : EReal) := by
  pointwise [k0_pay2]
  exact cen_ereal n64 (Z := fun k => v0 (ix2 i k)) (h i) bits_64 k

theorem pay6_at (k : Fin 64) : k0_pay6 v0 (ix2 0 k) = ((cen (W 0) k : ℝ) : EReal) := by
  pointwise [k0_pay6]
  exact pay2_at h 0 k

theorem pay7_at (k : Fin 64) : k0_pay7 v0 (ix2 k 0) = ((cen (W 0) k : ℝ) : EReal) := by
  pointwise [k0_pay7]
  exact pay6_at h k

theorem pay10_at (k : Fin 64) (d : Fin 32) : k0_pay10 v0 (ix2 k d) = ((cen (W (Net.rowF d)) k : ℝ) : EReal) := by
  pointwise [k0_pay10]
  exact pay2_at h (Net.rowF d) k

theorem pay11_at (k : Fin 64) (a : Fin 16) : k0_pay11 v0 (ix2 k a) = ((cen (W (Net.rowA a)) k : ℝ) : EReal) := by
  pointwise [k0_pay11]
  exact pay2_at h (Net.rowA a) k

theorem pay9_at : k0_pay9 v0 (ix2 0 0) = (((∑ k, cen (W 0) k * cen (W 0) k) / ((64 : ℕ) : ℝ) : ℝ) : EReal) := by
  pointwise [k0_pay9]
  rw [Fin.sum_univ_one]
  exact meansq_ereal n64 (Z := fun k => k0_pay6 v0 (ix2 0 k)) (pay6_at h) bits_64

theorem pay8_at {v18 : Vec Ideal S1x64 .f32} {g : Fin 64 → ℝ} (hg : ∀ k, v18 (ix2 0 k) = ((g k : ℝ) : EReal)) (k : Fin 64) :
    k0_pay8 v0 v18 (ix2 k 0) = ((cen (W 0) k * g k : ℝ) : EReal) := by
  pointwise [k0_pay8, k0_pay4]
  rw [hg, EReal.coe_mul]
  exact congrArg (· * _) (pay7_at h k)

end

/-- A row's entries as a column's. -/
theorem pay4_at {v : Vec Ideal S1x64 .f32} {g : Fin 64 → ℝ} (h : ∀ k, v (ix2 0 k) = ((g k : ℝ) : EReal)) (k : Fin 64) :
    k0_pay4 v (ix2 k 0) = ((g k : ℝ) : EReal) := by pointwise [k0_pay4]; exact h k
theorem pay5_at {v : Vec Ideal S1x64 .f32} {g : Fin 64 → ℝ} (h : ∀ k, v (ix2 0 k) = ((g k : ℝ) : EReal)) (k : Fin 64) :
    k0_pay5 v (ix2 k 0) = ((g k : ℝ) : EReal) := by pointwise [k0_pay5]; exact h k

theorem pay3_at {v : Vec Ideal S1x64 .f32} {b : Fin 64 → ℝ} (h : ∀ k, v (ix2 0 k) = ((b k : ℝ) : EReal)) (k : Fin 64) :
    k0_pay3 v (ix2 k 0) = ((cen b k : ℝ) : EReal) := by
  pointwise [k0_pay3]
  rw [Fin.sum_univ_one]
  exact cen_ereal n64 (Z := fun k => v (ix2 0 k)) h bits_64 k

/-! ## The second layer -/

theorem pay14_at {v : Vec Ideal S64x32 .f32} {W : Fin 64 → Fin 32 → EReal} (h : ∀ i k, v (ix2 i k) = W i k)
    (d : Fin 32) (k : Fin 64) :
    k0_pay14 (k0_pay12 v) (k0_pay13 v) (Scalar.ofBits .f32 0x42000000#32) (ix2 d k) = cenE (W k) d := by
  pointwise [k0_pay14, k0_pay12, k0_pay13]
  exact cenE_of (Z := fun d => v (ix2 k d)) (h k) bits_32 d

theorem pay15_at {v : Vec Ideal S1x32 .f32} {b : Fin 32 → EReal} (h : ∀ k, v (ix2 0 k) = b k) (k : Fin 32) :
    k0_pay15 v (ix2 k 0) = cenE b k := by
  pointwise [k0_pay15]
  rw [Fin.sum_univ_one]
  exact cenE_of (Z := fun k => v (ix2 0 k)) h bits_32 k
theorem pay16_at {v : Vec Ideal S1x32 .f32} {g : Fin 32 → ℝ} (h : ∀ k, v (ix2 0 k) = ((g k : ℝ) : EReal)) (k : Fin 32) :
    k0_pay16 v (ix2 k 0) = ((g k : ℝ) : EReal) := by pointwise [k0_pay16]; exact h k
theorem pay17_at {v : Vec Ideal S1x32 .f32} {g : Fin 32 → ℝ} (h : ∀ k, v (ix2 0 k) = ((g k : ℝ) : EReal)) (k : Fin 32) :
    k0_pay17 v (ix2 k 0) = ((g k : ℝ) : EReal) := by pointwise [k0_pay17]; exact h k

/-! ## The last two layers -/

theorem pay30_at {v : Vec Ideal S32x128 .f32} {W : Fin 32 → Fin 128 → EReal} (h : ∀ i k, v (ix2 i k) = W i k)
    (d : Fin 32) (e : Fin 128) : k0_pay30 v (ix2 d e) = cenE (W d) e := by
  pointwise [k0_pay30]
  exact cenE_of (Z := fun e => v (ix2 d e)) (h d) bits_128 e

theorem pay31_at {v : Vec Ideal S1x128 .f32} {b : Fin 128 → EReal} (h : ∀ k, v (ix2 0 k) = b k) (k : Fin 128) :
    k0_pay31 v (ix2 k 0) = cenE b k := by
  pointwise [k0_pay31]
  rw [Fin.sum_univ_one]
  exact cenE_of (Z := fun k => v (ix2 0 k)) h bits_128 k
theorem pay32_at {v : Vec Ideal S1x128 .f32} {g : Fin 128 → ℝ} (h : ∀ k, v (ix2 0 k) = ((g k : ℝ) : EReal)) (k : Fin 128) :
    k0_pay32 v (ix2 k 0) = ((g k : ℝ) : EReal) := by pointwise [k0_pay32]; exact h k
theorem pay33_at {v : Vec Ideal S1x128 .f32} {g : Fin 128 → ℝ} (h : ∀ k, v (ix2 0 k) = ((g k : ℝ) : EReal)) (k : Fin 128) :
    k0_pay33 v (ix2 k 0) = ((g k : ℝ) : EReal) := by pointwise [k0_pay33]; exact h k

theorem pay34_at {v : Vec Ideal S128x64 .f32} {W : Fin 128 → Fin 64 → EReal} (h : ∀ i k, v (ix2 i k) = W i k)
    (e : Fin 128) (o : Fin 64) : k0_pay34 v (ix2 e o) = cenE (W e) o := by
  pointwise [k0_pay34]
  exact cenE_of (Z := fun o => v (ix2 e o)) (h e) bits_64 o
theorem pay35_at (v : Vec Ideal S1x64 .f32) (k : Fin 64) : k0_pay35 v (ix2 k 0) = v (ix2 0 k) := by pointwise [k0_pay35]
theorem pay36_at (v : Vec Ideal S1x64 .f32) (k : Fin 64) : k0_pay36 v (ix2 k 0) = v (ix2 0 k) := by pointwise [k0_pay36]

end Cert.KernelIdeal.Pay

end
-- ==== Proof.Words.lean ====
/- The integer words of the kernel: a comparison turned into a zero or a one, and the row number cut into samples. -/
module

public import Idealize.ShloMosaic.PureOps.Ideal.Laws
public import Idealize.ShloMosaic.Lib.Pointwise

@[expose] public section

noncomputable section

namespace Cert.Words

open Idealize.ShloMosaic

/-- A comparison for equality of two small numbers, as a float: one where they agree, zero elsewhere. -/
theorem eq_word {a b : ℕ} (ha : a < 2 ^ 32) (hb : b < 2 ^ 32) :
    (FloatOps.sitofp (F := Ideal) .f32 (BitVec.setWidth 32 (IntOp.cmpi CmpIPredicate.eq (BitVec.ofNat 32 a) (BitVec.ofNat 32 b))) : EReal)
      = if a = b then 1 else 0 := by
  by_cases h : a = b
  · subst h
    rw [if_pos rfl]
    show (((BitVec.setWidth 32 (IntOp.cmpi CmpIPredicate.eq (BitVec.ofNat 32 a) (BitVec.ofNat 32 a))).toInt : ℝ) : EReal) = 1
    simp [IntOp.cmpi]
  · rw [if_neg h]
    have hne : BitVec.ofNat 32 a ≠ BitVec.ofNat 32 b := by
      intro e
      have := congrArg BitVec.toNat e
      simp only [BitVec.toNat_ofNat] at this
      omega
    show (((BitVec.setWidth 32 (IntOp.cmpi CmpIPredicate.eq (BitVec.ofNat 32 a) (BitVec.ofNat 32 b))).toInt : ℝ) : EReal) = 0
    have hb' : (BitVec.ofNat 32 a == BitVec.ofNat 32 b) = false := beq_eq_false_iff_ne.2 hne
    simp [IntOp.cmpi, hb']

/-- A sum against such ones and zeros picks one term. -/
theorem sum_pick {n : ℕ} (F : Fin n → EReal) (i : Fin n) :
    (∑ a : Fin n, F a * (if a.val = i.val then (1 : EReal) else 0)) = F i := by
  rw [Finset.sum_eq_single i]
  · simp
  · intro a _ hne
    rw [if_neg fun h => hne (Fin.ext h), mul_zero]
  · intro h; exact absurd (Finset.mem_univ i) h

/-! ## The row number cut into samples -/

/-- The quotient by the rows of one sample. -/
theorem div_word {r : ℕ} (h : r < 65536) :
    IntOp.divsi ArithUnit.vector (BitVec.ofNat 32 r) 4096#32 = BitVec.ofNat 32 (r / 4096) := by
  unfold IntOp.divsi
  rw [if_neg (by rintro (e | ⟨_, e⟩) <;> exact absurd e (by decide))]
  have hm : (BitVec.ofNat 32 r).msb = false := by
    rw [BitVec.msb_eq_false_iff_two_mul_lt, BitVec.toNat_ofNat]; omega
  rw [BitVec.sdiv_eq, hm]
  apply BitVec.eq_of_toNat_eq
  show ((BitVec.ofNat 32 r).udiv 4096#32).toNat = _
  rw [BitVec.udiv_eq, BitVec.toNat_udiv, BitVec.toNat_ofNat, BitVec.toNat_ofNat,
    Nat.mod_eq_of_lt (show r < 2 ^ 32 by omega), Nat.mod_eq_of_lt (show 4096 < 2 ^ 32 by norm_num),
    BitVec.toNat_ofNat, Nat.mod_eq_of_lt (show r / 4096 < 2 ^ 32 by omega)]

/-- The floor quotient, with its correction for signs that differ, is the quotient. -/
theorem floor_word {r : ℕ} (h : r < 65536) :
    Scalar.select
      (IntOp.andi
        (IntOp.cmpi CmpIPredicate.ne
          (IntOp.subi (BitVec.setWidth 32 (IntOp.cmpi CmpIPredicate.sgt (BitVec.ofNat 32 r) 0#32))
            (BitVec.setWidth 32 (IntOp.cmpi CmpIPredicate.slt (BitVec.ofNat 32 r) 0#32)))
          (Scalar.subi (Scalar.extui (Scalar.cmpi CmpIPredicate.sgt 4096#32 0#32))
            (Scalar.extui (Scalar.cmpi CmpIPredicate.slt 4096#32 0#32))))
        (IntOp.cmpi CmpIPredicate.ne (IntOp.remsi ArithUnit.vector (BitVec.ofNat 32 r) 4096#32) 0#32))
      (IntOp.subi (IntOp.divsi ArithUnit.vector (BitVec.ofNat 32 r) 4096#32) 1#32)
      (IntOp.divsi ArithUnit.vector (BitVec.ofNat 32 r) 4096#32) = BitVec.ofNat 32 (r / 4096) := by
  rcases Nat.eq_zero_or_pos r with rfl | hp
  · decide +kernel
  · have hi : (BitVec.ofNat 32 r).toInt = (r : ℤ) := by
      rw [BitVec.toInt_eq_toNat_of_lt (by rw [BitVec.toNat_ofNat]; omega), BitVec.toNat_ofNat, Nat.mod_eq_of_lt (by omega)]
    have h1 : IntOp.cmpi CmpIPredicate.sgt (BitVec.ofNat 32 r) 0#32 = 1#1 := by
      show BitVec.ofBool (BitVec.slt 0#32 (BitVec.ofNat 32 r)) = 1#1
      rw [show BitVec.slt 0#32 (BitVec.ofNat 32 r) = true from BitVec.slt_iff_toInt_lt.2 (by rw [hi]; simpa using hp)]; rfl
    have h2 : IntOp.cmpi CmpIPredicate.slt (BitVec.ofNat 32 r) 0#32 = 0#1 := by
      show BitVec.ofBool (BitVec.slt (BitVec.ofNat 32 r) 0#32) = 0#1
      have hs : ¬ BitVec.slt (BitVec.ofNat 32 r) 0#32 = true := by
        rw [BitVec.slt_iff_toInt_lt, hi]; simp
      rw [Bool.not_eq_true] at hs
      rw [hs]; rfl
    rw [h1, h2, div_word h]
    have h3 : IntOp.cmpi CmpIPredicate.ne (IntOp.subi (BitVec.setWidth 32 1#1) (BitVec.setWidth 32 0#1))
        (Scalar.subi (Scalar.extui (Scalar.cmpi CmpIPredicate.sgt 4096#32 0#32))
            (Scalar.extui (Scalar.cmpi CmpIPredicate.slt 4096#32 0#32))) = 0#1 := by decide +kernel
    rw [h3]
    have h4 : ∀ y : BitVec 1, IntOp.andi 0#1 y = 0#1 := by decide
    rw [h4]
    rfl

/-- Rows of sample `b`, junction `j`. -/
abbrev rowOf (b : Fin 16) (j : Fin 4096) : Fin 65536 :=
  ⟨b.val * 4096 + j.val, by have := b.isLt; have := j.isLt; omega⟩

/-- A sum over all rows against the ones of one sample is the sum over that sample's rows. -/
theorem sum_segment (F : Fin 65536 → EReal) (b : Fin 16) :
    (∑ r : Fin 65536, F r * (if r.val / 4096 = b.val then (1 : EReal) else 0)) = ∑ j : Fin 4096, F (rowOf b j) := by
  rw [Fin.sum_univ_tiles 16 4096 rfl, Finset.sum_eq_single b]
  · refine Finset.sum_congr rfl fun j _ => ?_
    rw [if_pos (show (b.val * 4096 + j.val) / 4096 = b.val by have := j.isLt; omega), mul_one]
  · intro a _ hne
    refine Finset.sum_eq_zero fun j _ => ?_
    rw [if_neg (show ¬ (a.val * 4096 + j.val) / 4096 = b.val from fun h => hne (Fin.ext (by have := j.isLt; omega))), mul_zero]
  · intro h; exact absurd (Finset.mem_univ b) h

end Cert.Words

end
-- ==== Proof.Tile.lean ====
/- Sixteen copies of one block side by side, read at a column. -/
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.KernelIdeal.Pay
open Cert.KernelIdeal Cert.KernelIdeal.Gen Idealize.ShloMosaic Idealize.ShloMosaic.TcCoe Idealize.SL.Sem

/-- Sixteen copies of a row. -/
def rows16 (v : FVec Ideal S1x4096 .f32) : FVec Ideal S1x65536 .f32 :=
  concatenate S1x65536 1 (List.replicate 16 ⟨S1x4096, v⟩)
    concatenates_S1x4096_S1x4096_S1x4096_S1x4096_S1x4096_S1x4096_S1x4096_S1x4096_S1x4096_S1x4096_S1x4096_S1x4096_S1x4096_S1x4096_S1x4096_S1x4096_S1x65536_d1

/-- Sixteen copies of a block of 64 rows. -/
def blocks16 (v : FVec Ideal S64x4096 .bf16) : FVec Ideal S64x65536 .bf16 :=
  concatenate S64x65536 1 (List.replicate 16 ⟨S64x4096, v⟩)
    concatenates_S64x4096_S64x4096_S64x4096_S64x4096_S64x4096_S64x4096_S64x4096_S64x4096_S64x4096_S64x4096_S64x4096_S64x4096_S64x4096_S64x4096_S64x4096_S64x4096_S64x65536_d1

theorem rows16_eq (v : FVec Ideal S1x4096 .f32) : concatenate S1x65536 1
    [⟨S1x4096, v⟩, ⟨S1x4096, v⟩, ⟨S1x4096, v⟩, ⟨S1x4096, v⟩, ⟨S1x4096, v⟩, ⟨S1x4096, v⟩, ⟨S1x4096, v⟩, ⟨S1x4096, v⟩,
     ⟨S1x4096, v⟩, ⟨S1x4096, v⟩, ⟨S1x4096, v⟩, ⟨S1x4096, v⟩, ⟨S1x4096, v⟩, ⟨S1x4096, v⟩, ⟨S1x4096, v⟩, ⟨S1x4096, v⟩]
    concatenates_S1x4096_S1x4096_S1x4096_S1x4096_S1x4096_S1x4096_S1x4096_S1x4096_S1x4096_S1x4096_S1x4096_S1x4096_S1x4096_S1x4096_S1x4096_S1x4096_S1x65536_d1
    = rows16 v := rfl

theorem blocks16_eq (v : FVec Ideal S64x4096 .bf16) : concatenate S64x65536 1
    [⟨S64x4096, v⟩, ⟨S64x4096, v⟩, ⟨S64x4096, v⟩, ⟨S64x4096, v⟩, ⟨S64x4096, v⟩, ⟨S64x4096, v⟩, ⟨S64x4096, v⟩, ⟨S64x4096, v⟩,
     ⟨S64x4096, v⟩, ⟨S64x4096, v⟩, ⟨S64x4096, v⟩, ⟨S64x4096, v⟩, ⟨S64x4096, v⟩, ⟨S64x4096, v⟩, ⟨S64x4096, v⟩, ⟨S64x4096, v⟩]
    concatenates_S64x4096_S64x4096_S64x4096_S64x4096_S64x4096_S64x4096_S64x4096_S64x4096_S64x4096_S64x4096_S64x4096_S64x4096_S64x4096_S64x4096_S64x4096_S64x4096_S64x65536_d1
    = blocks16 v := rfl

/-- The column inside its copy. -/
abbrev inCopy (r : Fin 65536) : Fin 4096 := ⟨r.val % 4096, Nat.mod_lt _ (by norm_num)⟩

theorem rows16_at (v : FVec Ideal S1x4096 .f32) (r : Fin 65536) : rows16 v (ix2 0 r) = v (ix2 0 (inCopy r)) := by
  refine concatenate_replicate_apply (s₁ := S1x4096) (t := S1x65536) 1 16 v _ rfl _ _ rfl ?_
  intro b hb
  match b with
  | ⟨0, _⟩ => rfl
  | ⟨1, _⟩ => exact absurd rfl hb

theorem blocks16_at (v : FVec Ideal S64x4096 .bf16) (k : Fin 64) (r : Fin 65536) :
    blocks16 v (ix2 k r) = v (ix2 k (inCopy r)) := by
  refine concatenate_replicate_apply (s₁ := S64x4096) (t := S64x65536) 1 16 v _ rfl _ _ rfl ?_
  intro b hb
  match b with
  | ⟨0, _⟩ => rfl
  | ⟨1, _⟩ => exact absurd rfl hb

end Cert.KernelIdeal.Pay

end
-- ==== Proof.PayFirst.lean ====
/- The kernel's first two layers at a junction and a sample. -/
module

public import proofs.«01_k».proof.Proof.PayWeights
public import proofs.«01_k».proof.Proof.Words
public import proofs.«01_k».proof.Proof.Tile

@[expose] public section

set_option maxRecDepth 16384

noncomputable section

namespace Cert.KernelIdeal.Pay
open Cert.KernelIdeal Cert.KernelIdeal.Gen Cert.Reals Idealize.ShloMosaic Idealize.ShloMosaic.TcCoe Idealize.SL.Sem

variable (A : Net.In)

/-- The joined word row holds the junctions' table rows behind the mask. -/
abbrev tailIdx (j : Fin 4096) : Fin 69632 := ⟨65536 + j.val, by have := j.isLt; omega⟩

section
variable {v17 : FVec Ideal S64x1 .f32} {v35 : FVec Ideal S64x32 .f32} {v37 : FVec Ideal S64x16 .f32}
  {v64 : Vec Ideal S1x69632 .i32} {v72 : Vec Ideal S512x16 .f32} {v74 : Vec Ideal S32x4096 .f32}
  (h17 : ∀ k, v17 (ix2 k 0) = ((cen A.b1 k : ℝ) : EReal))
  (h35 : ∀ k d, v35 (ix2 k d) = ((cen (A.W1 (Net.rowF d)) k : ℝ) : EReal))
  (h37 : ∀ k a, v37 (ix2 k a) = ((cen (A.W1 (Net.rowA a)) k : ℝ) : EReal))
  (h64 : ∀ j, v64 (ix2 0 (tailIdx j)) = BitVec.ofNat 32 (A.ix j).val)
  (h72 : ∀ i a, v72 (ix2 i a) = ((A.ae i a : ℝ) : EReal))
  (h74 : ∀ d j, v74 (ix2 d j) = ((A.fe j d : ℝ) : EReal))
include h17 h35 h37 h64 h72 h74

theorem pay19_at (k : Fin 64) (j : Fin 4096) :
    k0_pay19 v17 v35 v37 v64 v72 v74 (ix2 k j) = ((cen (Net.u1 A j) k : ℝ) : EReal) := by
  pointwise [k0_pay19, k0_pay18]
  have hg : ∀ a : Fin 16, (∑ i : Fin 512, v72 (ix2 i a) * (FloatOps.sitofp (F := Ideal) .f32 (BitVec.setWidth 32
      (IntOp.cmpi CmpIPredicate.eq (BitVec.ofNat 32 i.val) (v64 (ix2 0 (tailIdx j))))) : EReal)) = ((A.ae (A.ix j) a : ℝ) : EReal) := by
    intro a
    rw [h64, ← h72]
    refine Eq.trans (Finset.sum_congr rfl fun i _ => ?_) (Words.sum_pick (fun i => v72 (ix2 i a)) (A.ix j))
    rw [Words.eq_word (lt_trans i.isLt (by norm_num)) (lt_trans (A.ix j).isLt (by norm_num))]
  have e1 : (∑ d : Fin 32, v35 (ix2 k d) * v74 (ix2 d j))
      = ((∑ d, cen (A.W1 (Net.rowF d)) k * A.fe j d : ℝ) : EReal) :=
    sum_eq_coe fun d => by rw [h35, h74, EReal.coe_mul]
  have e2 : (∑ a : Fin 16, v37 (ix2 k a) * (∑ i : Fin 512, v72 (ix2 i a) * (FloatOps.sitofp (F := Ideal) .f32 (BitVec.setWidth 32
      (IntOp.cmpi CmpIPredicate.eq (BitVec.ofNat 32 i.val) (v64 (ix2 0 (tailIdx j))))) : EReal)))
      = ((∑ a, cen (A.W1 (Net.rowA a)) k * A.ae (A.ix j) a : ℝ) : EReal) :=
    sum_eq_coe fun a => by rw [h37, hg, EReal.coe_mul]
  rw [Net.cen_u1, EReal.coe_add, EReal.coe_add, ← e1, ← e2, ← h17]

theorem pay20_at {v20 : FVec Ideal S64x1 .f32} (h20 : ∀ k, v20 (ix2 k 0) = ((A.g1 k : ℝ) : EReal))
    (k : Fin 64) (j : Fin 4096) :
    k0_pay20 v17 v20 v35 v37 v64 v72 v74 (ix2 k j) = ((cen (Net.u1 A j) k * A.g1 k : ℝ) : EReal) := by
  pointwise [k0_pay20]
  rw [pay19_at A h17 h35 h37 h64 h72 h74, h20, EReal.coe_mul]

theorem pay21_at (k : Fin 64) (j : Fin 4096) :
    k0_pay21 v17 v35 v37 v64 v72 v74 (ix2 k j) = ((cen (Net.u1 A j) k * cen (Net.u1 A j) k : ℝ) : EReal) := by
  pointwise [k0_pay21]
  rw [pay19_at A h17 h35 h37 h64 h72 h74, EReal.coe_mul]

end

section
variable {v23 v25 v26 : FVec Ideal S64x1 .f32} {v33 : FVec Ideal S1x1 .f32} {v47 : FVec Ideal S32x64 .bf16}
  {v57 : FVec Ideal S32x1 .f32} {v80 : FVec Ideal S64x4096 .f32} {v83 : FVec Ideal S64x4096 .bf16}
  {v84 : FVec Ideal S64x4096 .f32} {v97 : Vec Ideal S1x65536 .f32}

/-- What the second affine map is fed with, at one row of the joined samples. -/
theorem first_at (b : Fin 16) (j : Fin 4096) {a bq c1 x : EReal}
    (ha : a = (((∑ k, cen (Net.u1 A j) k * cen (Net.u1 A j) k : ℝ)) : EReal))
    (hb : bq = ((∑ k, cen (Net.u1 A j) k * cen (A.W1 0) k : ℝ) : EReal))
    (hc : c1 = (((∑ k, cen (A.W1 0) k * cen (A.W1 0) k) / ((64 : ℕ) : ℝ) : ℝ) : EReal))
    (hx : x = ((A.x b j : ℝ) : EReal)) :
    Ideal.rsqrt (Ideal.div a (Ideal.ofBits FTy.f32 0x42800000#32)
        + x * (Ideal.ofBits FTy.f32 0x40000000#32 * Ideal.div bq (Ideal.ofBits FTy.f32 0x42800000#32) + x * c1)
        + Ideal.ofBits FTy.f32 0x3727C5AC#32) = (((sd (Net.z1 A b j))⁻¹ : ℝ) : EReal) := by
  rw [ha, hb, hc, hx, bits_64, bits_2, bits_eps, div_real n64, div_real n64]
  simp only [← EReal.coe_mul, ← EReal.coe_add]
  rw [← Net.meansq_z1, rsqrt_real (var_pos _)]
  rfl

theorem pay22_at (b : Fin 16) (j : Fin 4096) (d : Fin 32) (r : Fin 65536) (hr : r.val = b.val * 4096 + j.val)
    (h23 : ∀ k, v23 (ix2 k 0) = ((A.be1 k : ℝ) : EReal))
    (h25 : ∀ k, v25 (ix2 k 0) = ((cen (A.W1 0) k : ℝ) : EReal))
    (h26 : ∀ k, v26 (ix2 k 0) = ((cen (A.W1 0) k * A.g1 k : ℝ) : EReal))
    (h33 : v33 (ix2 0 0) = (((∑ k, cen (A.W1 0) k * cen (A.W1 0) k) / ((64 : ℕ) : ℝ) : ℝ) : EReal))
    (h47 : ∀ d k, v47 (ix2 d k) = cenE (A.W2 k) d)
    (h57 : ∀ d, v57 (ix2 d 0) = cenE A.b2 d)
    (h80 : ∀ k j, v80 (ix2 k j) = ((cen (Net.u1 A j) k : ℝ) : EReal))
    (h83 : ∀ k j, v83 (ix2 k j) = ((cen (Net.u1 A j) k * A.g1 k : ℝ) : EReal))
    (h84 : ∀ k j, v84 (ix2 k j) = ((cen (Net.u1 A j) k * cen (Net.u1 A j) k : ℝ) : EReal))
    (h97 : v97 (ix2 0 r) = ((A.x b j : ℝ) : EReal)) :
    k0_pay22 v23 v25 v26 v33 v47 v57 v80 v83 v84 v97 (ix2 d r) = affC (Net.h1 A b j) A.W2 A.b2 d := by
  unfold k0_pay22
  dsimp only
  simp only [rows16_eq, blocks16_eq]
  pointwise [rows16_at, blocks16_at]
  have hj : inCopy r = j := Fin.ext (show r.val % 4096 = j.val by have := j.isLt; omega)
  simp only [hj]
  rw [first_at A b j (sum_eq_coe fun k => h84 k j)
    (sum_eq_coe fun k => by rw [h80, h25, ← EReal.coe_mul]) h33 h97]
  unfold affC
  rw [← h57]
  refine congrArg (· + _) (Finset.sum_congr rfl fun k _ => ?_)
  rw [h47, h83, h26, h23, h97]
  simp only [← EReal.coe_mul, ← EReal.coe_add]
  rw [max_zero]
  refine congrArg (fun t : ℝ => cenE (A.W2 k) d * ((t : ℝ) : EReal)) ?_
  show _ = max (cen (Net.z1 A b j) k * (sd (Net.z1 A b j))⁻¹ * A.g1 k + A.be1 k) 0
  rw [Net.cen_z1]
  congr 1; ring
end

end Cert.KernelIdeal.Pay

end
-- ==== Proof.PaySecond.lean ====
/- The kernel's masked sums over the junctions of each sample, their mean, and the last two layers. -/
module

public import proofs.«01_k».proof.Proof.PayFirst

@[expose] public section

set_option maxRecDepth 16384

noncomputable section

namespace Cert.KernelIdeal.Pay
open Cert.KernelIdeal Cert.KernelIdeal.Gen Cert.Reals Idealize.ShloMosaic Idealize.ShloMosaic.TcCoe Idealize.SL.Sem

variable (A : Net.In)

/-- Where the joined word row holds the mask of sample `b`, junction `j`. -/
abbrev headIdx (b : Fin 16) (j : Fin 4096) : Fin 69632 :=
  ⟨b.val * 4096 + j.val, by have := b.isLt; have := j.isLt; omega⟩

section
variable {v23 v25 v26 : FVec Ideal S64x1 .f32} {v33 : FVec Ideal S1x1 .f32} {v47 : FVec Ideal S32x64 .bf16}
  {v57 : FVec Ideal S32x1 .f32} {v80 : FVec Ideal S64x4096 .f32} {v83 : FVec Ideal S64x4096 .bf16}
  {v84 : FVec Ideal S64x4096 .f32} {v97 : Vec Ideal S1x65536 .f32}

/-- The mean square of the second affine map's centred row. -/
theorem pay23_at (r : Fin 65536) :
    k0_pay23 v23 v25 v26 v33 v47 v57 v80 v83 v84 v97 (ix2 0 r)
      = Ideal.div (∑ d : Fin 32, k0_pay22 v23 v25 v26 v33 v47 v57 v80 v83 v84 v97 (ix2 d r)
          * k0_pay22 v23 v25 v26 v33 v47 v57 v80 v83 v84 v97 (ix2 d r)) (Ideal.ofBits .f32 0x42000000#32) := by
  pointwise [k0_pay23]
end

section
variable {v60 v63 : FVec Ideal S32x1 .f32} {v65 : IVec S1x69632 32} {v125 : FVec Ideal S32x65536 .f32}
  {v130 v131 : FVec Ideal S1x65536 .f32}
  (h60 : ∀ d, v60 (ix2 d 0) = ((A.g2 d : ℝ) : EReal))
  (h63 : ∀ d, v63 (ix2 d 0) = ((A.be2 d : ℝ) : EReal))
  (h65 : ∀ b j, (((v65 (ix2 0 (headIdx b j))).toInt : ℝ)) = A.msk b j)
  (h125 : ∀ d b j, v125 (ix2 d (Words.rowOf b j)) = affC (Net.h1 A b j) A.W2 A.b2 d)
  (h130 : ∀ r, v130 (ix2 0 r) = Ideal.div (∑ d : Fin 32, v125 (ix2 d r) * v125 (ix2 d r)) (Ideal.ofBits .f32 0x42000000#32))
  (h131 : ∀ r, v131 (ix2 0 r) = Ideal.ofBits .f32 0x3727C5AC#32)
include h60 h63 h65 h125 h130 h131

/-- The masked sum of each feature over one sample. -/
theorem pay25_acc (d : Fin 32) (b : Fin 16) :
    k0_pay25 v60 v63 v65 v125 v130 v131 (ix2 (⟨d.val, by have := d.isLt; omega⟩ : Fin 33) b)
      = ((Net.acc A b d : ℝ) : EReal) := by
  pointwise [k0_pay25]
  refine Eq.trans (Finset.sum_congr rfl fun r _ => congrArg (HMul.hMul (α := EReal) (β := EReal) (γ := EReal) _) ?_) ((Words.sum_segment (fun r : Fin 65536 =>
      max (v125 (ix2 d r) * (Ideal.rsqrt (v130 (ix2 0 r) + v131 (ix2 0 r)) * v60 (ix2 d 0)) + v63 (ix2 d 0)) 0 *
          (FloatOps.sitofp (F := Ideal) .f32 (v65 (ix2 0 ⟨r.val, by have := r.isLt; omega⟩)) : EReal)) b).trans
      (sum_eq_coe fun j => ?_))
  · rw [Words.floor_word r.isLt, Words.eq_word (by have := r.isLt; omega) (lt_trans b.isLt (by norm_num))]
  · dsimp only
    rw [h130, h131, nrmE_ker n32 (P := fun d => v125 (ix2 d (Words.rowOf b j))) (fun d => h125 d b j) bits_32 bits_eps,
      h60, h63, layerE_coe, EReal.coe_mul, ← h65]
    rfl

/-- The mask's sum over one sample. -/
theorem pay25_cnt (b : Fin 16) :
    k0_pay25 v60 v63 v65 v125 v130 v131 (ix2 (32 : Fin 33) b) = ((Net.cnt A b : ℝ) : EReal) := by
  pointwise [k0_pay25]
  refine Eq.trans (Finset.sum_congr rfl fun r _ => congrArg (HMul.hMul (α := EReal) (β := EReal) (γ := EReal) _) ?_) ((Words.sum_segment (fun r : Fin 65536 =>
      (FloatOps.sitofp (F := Ideal) .f32 (v65 (ix2 0 ⟨r.val, by have := r.isLt; omega⟩)) : EReal)) b).trans
      (sum_eq_coe fun j => ?_))
  · rw [Words.floor_word r.isLt, Words.eq_word (by have := r.isLt; omega) (lt_trans b.isLt (by norm_num))]
  · rw [← h65]; rfl

theorem pay26_at (b : Fin 16) : k0_pay26 v60 v63 v65 v125 v130 v131 (ix2 0 b) = ((Net.cnt A b : ℝ) : EReal) := by
  pointwise [k0_pay26]
  exact pay25_cnt A h60 h63 h65 h125 h130 h131 b

theorem pay28_at (d : Fin 32) (b : Fin 16) :
    k0_pay28 v60 v63 v65 v125 v130 v131 (ix2 d b) = ((Net.acc A b d : ℝ) : EReal) := by
  pointwise [k0_pay28]
  exact pay25_acc A h60 h63 h65 h125 h130 h131 d b

omit h60 h63 h65 h125 h130 h131 in
theorem pay27_eq : k0_pay27 v60 v63 v65 v125 v130 v131
    = cmpf .ogt (k0_pay26 v60 v63 v65 v125 v130 v131) (broadcast S1x16 (Scalar.ofBits .f32 0x00000000#32)) := rfl
end

/-- The masked mean, zero where the mask counts nothing. -/
theorem mean_at {v177 : FVec Ideal S1x16 .f32} {v180 : FVec Ideal S32x16 .f32}
    (h177 : ∀ b, v177 (ix2 0 b) = ((Net.cnt A b : ℝ) : EReal))
    (h180 : ∀ d b, v180 (ix2 d b) = ((Net.acc A b d : ℝ) : EReal)) (d : Fin 32) (b : Fin 16) :
    k0_pay29 v177 (cmpf .ogt v177 (broadcast S1x16 (Scalar.ofBits .f32 0x00000000#32))) v180
      (Scalar.ofBits .f32 0x3F800000#32) (ix2 d b) = ((Net.c A b d : ℝ) : EReal) := by
  pointwise [k0_pay29]
  rw [h177, h180, mean_masked]
  rfl

section
variable {v188 : FVec Ideal S32x16 .f32} {v196 : FVec Ideal S32x128 .f32} {v206 v209 v212 : FVec Ideal S128x1 .f32}
  {v220 : FVec Ideal S128x64 .f32} {v221 : Vec Ideal S1x64 .f32}

/-- The last affine map, centred. -/
theorem pay37_at
    (h188 : ∀ d b, v188 (ix2 d b) = ((Net.c A b d : ℝ) : EReal))
    (h196 : ∀ d e, v196 (ix2 d e) = cenE (A.Wm1 d) e)
    (h206 : ∀ e, v206 (ix2 e 0) = cenE A.bm1 e)
    (h209 : ∀ e, v209 (ix2 e 0) = ((A.gm1 e : ℝ) : EReal))
    (h212 : ∀ e, v212 (ix2 e 0) = ((A.bem1 e : ℝ) : EReal))
    (h220 : ∀ e o, v220 (ix2 e o) = cenE (A.Wm2 e) o)
    (h221 : ∀ o, v221 (ix2 0 o) = A.bm2 o) (o : Fin 64) (b : Fin 16) :
    k0_pay37 v188 v196 v206 v209 v212 v220 v221 (ix2 o b) = affC (Net.t1 A b) A.Wm2 A.bm2 o := by
  pointwise [k0_pay37]
  have h3 : ∀ e : Fin 128, (∑ d : Fin 32, v196 (ix2 d e) * v188 (ix2 d b)) + v206 (ix2 e 0)
      = affC (Net.c A b) A.Wm1 A.bm1 e := fun e => by
    unfold affC
    rw [h206]
    exact congrArg (· + _) (Finset.sum_congr rfl fun d _ => by rw [h196, h188])
  unfold affC
  rw [Fin.sum_univ_one, cenE_of (Z := fun o => v221 (ix2 0 o)) h221 bits_64]
  refine congrArg (· + _) (Finset.sum_congr rfl fun e _ => ?_)
  rw [nrmE_ker n128 h3 bits_128 bits_eps, h209, h212, layerE_coe, h220]
  rfl

theorem pay38_at (b : Fin 16) :
    k0_pay38 v188 v196 v206 v209 v212 v220 v221 (ix2 0 b)
      = Ideal.div (∑ o : Fin 64, k0_pay37 v188 v196 v206 v209 v212 v220 v221 (ix2 o b)
          * k0_pay37 v188 v196 v206 v209 v212 v220 v221 (ix2 o b)) (Ideal.ofBits .f32 0x42800000#32) := by
  pointwise [k0_pay38]
end

theorem pay1_at {v233 v236 : FVec Ideal S64x1 .f32} {v260 : FVec Ideal S64x16 .f32} {v265 : FVec Ideal S1x16 .f32}
    (h233 : ∀ o, v233 (ix2 o 0) = A.gm2 o) (h236 : ∀ o, v236 (ix2 o 0) = A.bem2 o)
    (h260 : ∀ o b, v260 (ix2 o b) = affC (Net.t1 A b) A.Wm2 A.bm2 o)
    (h265 : ∀ b, v265 (ix2 0 b) = Ideal.div (∑ o : Fin 64, v260 (ix2 o b) * v260 (ix2 o b)) (Ideal.ofBits .f32 0x42800000#32))
    (o : Fin 64) (b : Fin 16) :
    k0_pay1 v233 v236 v260 v265 k0_pay39 (ix2 o b) = Net.out A b o := by
  pointwise [k0_pay1, k0_pay39]
  rw [h265, nrmE_ker n64 (P := fun o => v260 (ix2 o b)) (fun o => h260 o b) bits_64 bits_eps, h233, h236]
  rfl

end Cert.KernelIdeal.Pay

end
-- ==== Proof.Block.lean ====
/- What the kernel's body leaves in its output, its seven input blocks holding the inputs. -/
module

public import proofs.«01_k».proof.Proof.PaySecond
public import proofs.«01_k».proof.Proof.Gen.KernelIdeal.Frame
public import Idealize.ShloMosaic.Lib.Pipeline.ValueKit

@[expose] public section

set_option maxRecDepth 16384

noncomputable section

namespace Cert.KernelIdeal.Pay
open Cert.KernelIdeal Cert.KernelIdeal.Gen Cert.Reals Idealize.ShloMosaic Idealize.ShloMosaic.TcCoe Idealize.SL.Sem

/-- The input blocks hold the inputs: the samples and the words in one row each, the three weight blocks with a matrix
    above its shift, scale and offset rows. -/
structure Blocks (A : Net.In) (x0 : Vec Ideal S1x65536 .f32) (x1 : Vec Ideal S1x69632 .i32) (x2 : Vec Ideal S32x4096 .f32)
    (x3 : Vec Ideal S512x16 .f32) (x4 : Vec Ideal S183x64 .f32) (x5 : Vec Ideal S67x32 .f32) (x6 : Vec Ideal S35x128 .f32) : Prop where
  x : ∀ b j, x0 (ix2 0 (Words.rowOf b j)) = ((A.x b j : ℝ) : EReal)
  msk : ∀ b j, ((x1 (ix2 0 (headIdx b j))).toInt : ℝ) = A.msk b j
  ix : ∀ j, x1 (ix2 0 (tailIdx j)) = BitVec.ofNat 32 (A.ix j).val
  fe : ∀ d j, x2 (ix2 d j) = ((A.fe j d : ℝ) : EReal)
  ae : ∀ i a, x3 (ix2 i a) = ((A.ae i a : ℝ) : EReal)
  W1 : ∀ (i : Fin 49) k, x4 (ix2 (⟨i.val, by have := i.isLt; omega⟩ : Fin 183) k) = ((A.W1 i k : ℝ) : EReal)
  b1 : ∀ k, x4 (ix2 (49 : Fin 183) k) = ((A.b1 k : ℝ) : EReal)
  g1 : ∀ k, x4 (ix2 (50 : Fin 183) k) = ((A.g1 k : ℝ) : EReal)
  be1 : ∀ k, x4 (ix2 (51 : Fin 183) k) = ((A.be1 k : ℝ) : EReal)
  Wm2 : ∀ (e : Fin 128) o, x4 (ix2 (⟨52 + e.val, by have := e.isLt; omega⟩ : Fin 183) o) = A.Wm2 e o
  bm2 : ∀ o, x4 (ix2 (180 : Fin 183) o) = A.bm2 o
  gm2 : ∀ o, x4 (ix2 (181 : Fin 183) o) = A.gm2 o
  bem2 : ∀ o, x4 (ix2 (182 : Fin 183) o) = A.bem2 o
  W2 : ∀ (k : Fin 64) d, x5 (ix2 (⟨k.val, by have := k.isLt; omega⟩ : Fin 67) d) = A.W2 k d
  b2 : ∀ d, x5 (ix2 (64 : Fin 67) d) = A.b2 d
  g2 : ∀ d, x5 (ix2 (65 : Fin 67) d) = ((A.g2 d : ℝ) : EReal)
  be2 : ∀ d, x5 (ix2 (66 : Fin 67) d) = ((A.be2 d : ℝ) : EReal)
  Wm1 : ∀ (d : Fin 32) e, x6 (ix2 (⟨d.val, by have := d.isLt; omega⟩ : Fin 35) e) = A.Wm1 d e
  bm1 : ∀ e, x6 (ix2 (32 : Fin 35) e) = A.bm1 e
  gm1 : ∀ e, x6 (ix2 (33 : Fin 35) e) = ((A.gm1 e : ℝ) : EReal)
  bem1 : ∀ e, x6 (ix2 (34 : Fin 35) e) = ((A.bem1 e : ℝ) : EReal)

variable {A : Net.In} {x0 : Vec Ideal S1x65536 .f32} {x1 : Vec Ideal S1x69632 .i32} {x2 : Vec Ideal S32x4096 .f32}
  {x3 : Vec Ideal S512x16 .f32} {x4 : Vec Ideal S183x64 .f32} {x5 : Vec Ideal S67x32 .f32} {x6 : Vec Ideal S35x128 .f32}
  (H : Blocks A x0 x1 x2 x3 x4 x5 x6)
include H

/-! ## The first layer's values -/

theorem v40_at (k : Fin 64) : k0_pay40 x0 x1 x2 x3 x4 x5 x6 (ix2 k 0) = ((cen A.b1 k : ℝ) : EReal) := by
  unfold k0_pay40; exact pay3_at (fun k => by pointwise; exact H.b1 k) k
theorem v41_at (k : Fin 64) : k0_pay41 x0 x1 x2 x3 x4 x5 x6 (ix2 k 0) = ((A.be1 k : ℝ) : EReal) := by
  unfold k0_pay41; exact pay5_at (fun k => by pointwise; exact H.be1 k) k
theorem v42_at (k : Fin 64) : k0_pay42 x0 x1 x2 x3 x4 x5 x6 (ix2 k 0) = ((cen (A.W1 0) k : ℝ) : EReal) := by
  unfold k0_pay42; exact pay7_at (fun i k => by pointwise; exact H.W1 i k) k
theorem v43_at (k : Fin 64) : k0_pay43 x0 x1 x2 x3 x4 x5 x6 (ix2 k 0) = ((cen (A.W1 0) k * A.g1 k : ℝ) : EReal) := by
  unfold k0_pay43; exact pay8_at (fun i k => by pointwise; exact H.W1 i k) (fun k => by pointwise; exact H.g1 k) k
theorem v44_at : k0_pay44 x0 x1 x2 x3 x4 x5 x6 (ix2 0 0)
    = (((∑ k, cen (A.W1 0) k * cen (A.W1 0) k) / ((64 : ℕ) : ℝ) : ℝ) : EReal) := by
  unfold k0_pay44; exact pay9_at (fun i k => by pointwise; exact H.W1 i k)
theorem v45_at (k : Fin 64) (d : Fin 32) : k0_pay45 x0 x1 x2 x3 x4 x5 x6 (ix2 k d) = ((cen (A.W1 (Net.rowF d)) k : ℝ) : EReal) := by
  unfold k0_pay45; exact pay10_at (fun i k => by pointwise; exact H.W1 i k) k d
theorem v46_at (k : Fin 64) (a : Fin 16) : k0_pay46 x0 x1 x2 x3 x4 x5 x6 (ix2 k a) = ((cen (A.W1 (Net.rowA a)) k : ℝ) : EReal) := by
  unfold k0_pay46; exact pay11_at (fun i k => by pointwise; exact H.W1 i k) k a

theorem v52_at (k : Fin 64) (j : Fin 4096) : k0_pay52 x0 x1 x2 x3 x4 x5 x6 (ix2 k j) = ((cen (Net.u1 A j) k : ℝ) : EReal) := by
  unfold k0_pay52
  exact pay19_at A (v40_at H) (v45_at H) (v46_at H) (fun j => by pointwise; exact H.ix j)
    (fun i a => by pointwise; exact H.ae i a) (fun d j => by pointwise; exact H.fe d j) k j
theorem v53_at (k : Fin 64) (j : Fin 4096) :
    k0_pay53 x0 x1 x2 x3 x4 x5 x6 (ix2 k j) = ((cen (Net.u1 A j) k * A.g1 k : ℝ) : EReal) := by
  unfold k0_pay53
  exact pay20_at A (v40_at H) (v45_at H) (v46_at H) (fun j => by pointwise; exact H.ix j)
    (fun i a => by pointwise; exact H.ae i a) (fun d j => by pointwise; exact H.fe d j)
    (pay4_at fun k => by pointwise; exact H.g1 k) k j
theorem v54_at (k : Fin 64) (j : Fin 4096) :
    k0_pay54 x0 x1 x2 x3 x4 x5 x6 (ix2 k j) = ((cen (Net.u1 A j) k * cen (Net.u1 A j) k : ℝ) : EReal) := by
  unfold k0_pay54
  exact pay21_at A (v40_at H) (v45_at H) (v46_at H) (fun j => by pointwise; exact H.ix j)
    (fun i a => by pointwise; exact H.ae i a) (fun d j => by pointwise; exact H.fe d j) k j

/-! ## The second layer's values and the masked mean -/

theorem v47_at (d : Fin 32) (k : Fin 64) : k0_pay47 x0 x1 x2 x3 x4 x5 x6 (ix2 d k) = cenE (A.W2 k) d := by
  unfold k0_pay47; exact pay14_at (fun i k => by pointwise; exact H.W2 i k) d k
theorem v48_at (d : Fin 32) : k0_pay48 x0 x1 x2 x3 x4 x5 x6 (ix2 d 0) = cenE A.b2 d := by
  unfold k0_pay48; exact pay15_at (fun k => by pointwise; exact H.b2 k) d
theorem v49_at (d : Fin 32) : k0_pay49 x0 x1 x2 x3 x4 x5 x6 (ix2 d 0) = ((A.g2 d : ℝ) : EReal) := by
  unfold k0_pay49; exact pay16_at (fun k => by pointwise; exact H.g2 k) d
theorem v50_at (d : Fin 32) : k0_pay50 x0 x1 x2 x3 x4 x5 x6 (ix2 d 0) = ((A.be2 d : ℝ) : EReal) := by
  unfold k0_pay50; exact pay17_at (fun k => by pointwise; exact H.be2 k) d
theorem v51_at (b : Fin 16) (j : Fin 4096) :
    ((k0_pay51 x0 x1 x2 x3 x4 x5 x6 (ix2 0 (headIdx b j))).toInt : ℝ) = A.msk b j := by
  unfold k0_pay51; rw [← H.msk]; pointwise [k0_pay18]

theorem v55_at (d : Fin 32) (b : Fin 16) (j : Fin 4096) :
    k0_pay55 x0 x1 x2 x3 x4 x5 x6 (ix2 d (Words.rowOf b j)) = affC (Net.h1 A b j) A.W2 A.b2 d := by
  unfold k0_pay55
  exact pay22_at A b j d (Words.rowOf b j) rfl (v41_at H) (v42_at H) (v43_at H) (v44_at H) (v47_at H) (v48_at H)
    (v52_at H) (v53_at H) (v54_at H) (by pointwise; exact H.x b j)

omit H in
theorem v56_at (r : Fin 65536) : k0_pay56 x0 x1 x2 x3 x4 x5 x6 (ix2 0 r)
    = Ideal.div (∑ d : Fin 32, k0_pay55 x0 x1 x2 x3 x4 x5 x6 (ix2 d r) * k0_pay55 x0 x1 x2 x3 x4 x5 x6 (ix2 d r))
        (Ideal.ofBits .f32 0x42000000#32) := by
  unfold k0_pay56 k0_pay55; exact pay23_at r

omit H in
theorem v57_at (r : Fin 65536) : k0_pay57 x0 x1 x2 x3 x4 x5 x6 (ix2 0 r) = Ideal.ofBits .f32 0x3727C5AC#32 := by
  unfold k0_pay57; pointwise [k0_pay24]

theorem v58_at (d : Fin 32) (b : Fin 16) : k0_pay58 x0 x1 x2 x3 x4 x5 x6 (ix2 d b) = ((Net.c A b d : ℝ) : EReal) := by
  unfold k0_pay58
  rw [pay27_eq]
  exact mean_at A (fun b => pay26_at A (v49_at H) (v50_at H) (v51_at H) (v55_at H) v56_at v57_at b)
    (fun d b => pay28_at A (v49_at H) (v50_at H) (v51_at H) (v55_at H) v56_at v57_at d b) d b

/-! ## The last two layers' values -/

theorem v59_at (d : Fin 32) (e : Fin 128) : k0_pay59 x0 x1 x2 x3 x4 x5 x6 (ix2 d e) = cenE (A.Wm1 d) e := by
  unfold k0_pay59; exact pay30_at (fun i k => by pointwise; exact H.Wm1 i k) d e
theorem v60_at (e : Fin 128) : k0_pay60 x0 x1 x2 x3 x4 x5 x6 (ix2 e 0) = cenE A.bm1 e := by
  unfold k0_pay60; exact pay31_at (fun k => by pointwise; exact H.bm1 k) e
theorem v61_at (e : Fin 128) : k0_pay61 x0 x1 x2 x3 x4 x5 x6 (ix2 e 0) = ((A.gm1 e : ℝ) : EReal) := by
  unfold k0_pay61; exact pay32_at (fun k => by pointwise; exact H.gm1 k) e
theorem v62_at (e : Fin 128) : k0_pay62 x0 x1 x2 x3 x4 x5 x6 (ix2 e 0) = ((A.bem1 e : ℝ) : EReal) := by
  unfold k0_pay62; exact pay33_at (fun k => by pointwise; exact H.bem1 k) e
theorem v63_at (e : Fin 128) (o : Fin 64) : k0_pay63 x0 x1 x2 x3 x4 x5 x6 (ix2 e o) = cenE (A.Wm2 e) o := by
  unfold k0_pay63; exact pay34_at (fun i k => by pointwise; exact H.Wm2 i k) e o

/-- The body's output at a feature and a sample. -/
theorem out0_7_at (o : Fin 64) (b : Fin 16) : out0_7 x0 x1 x2 x3 x4 x5 x6 (ix2 o b) = Net.out A b o := by
  frame_out
  refine pay1_at A (fun o => (pay35_at _ o).trans ?_) (fun o => (pay36_at _ o).trans ?_)
    (fun o b => pay37_at A (v58_at H) (v59_at H) (v60_at H) (v61_at H) (v62_at H) (v63_at H) (fun o => ?_) o b)
    (fun b => pay38_at b) o b
  · pointwise; exact H.gm2 o
  · pointwise; exact H.bem2 o
  · pointwise; exact H.bm2 o

end Cert.KernelIdeal.Pay

end
-- ==== Proof.Host.lean ====
/- What the kernel's launch hands its body, what its array holds after the run, and the two results cut from it. -/
module

public import proofs.«01_k».proof.Proof.Args
public import proofs.«01_k».proof.Proof.Block

@[expose] public section

set_option maxRecDepth 16384

noncomputable section

namespace Cert.KernelIdeal.Host
open Cert.KernelIdeal Cert.KernelIdeal.Gen Cert.Reals Idealize.ShloMosaic Idealize.ShloMosaic.TcCoe Idealize.SL.Sem
open Idealize.ShloMosaic.Pipeline

variable (m : (l : Loc nD τ sig) → Buf (Elt Ideal) l) (c : Dev nD)

/-- The argument arrays of the kernel hold the inputs. -/
abbrev Holds (A : Net.In) : Prop := Net.Args A (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13))
  (m ((c : Thread nD τ).loc main_arg14)) (m ((c : Thread nD τ).loc main_arg15)) (m ((c : Thread nD τ).loc main_arg16))
  (m ((c : Thread nD τ).loc main_arg17)) (m ((c : Thread nD τ).loc main_arg18)) (m ((c : Thread nD τ).loc main_arg19))
  (m ((c : Thread nD τ).loc main_arg20))

/-! ## Each block is its whole array -/

theorem idx0 : ∀ a, win0_0.index t0_0 a = 0 := by decide
theorem idx1 : ∀ a, win0_1.index t0_0 a = 0 := by decide
theorem idx2 : ∀ a, win0_2.index t0_0 a = 0 := by decide
theorem idx3 : ∀ a, win0_3.index t0_0 a = 0 := by decide
theorem idx4 : ∀ a, win0_4.index t0_0 a = 0 := by decide
theorem idx5 : ∀ a, win0_5.index t0_0 a = 0 := by decide
theorem idx6 : ∀ a, win0_6.index t0_0 a = 0 := by decide
theorem blk0 : (iblk m c 0 t0_0 : FVec Ideal S1x65536 .f32) = V m c main_v0 := by
  funext i; blk_point [iblk, V, idx0]
theorem blk1 : (iblk m c 1 t0_0 : IVec S1x69632 32) = V m c main_v3 := by
  funext i; blk_point [iblk, V, idx1]
theorem blk2 : (iblk m c 2 t0_0 : FVec Ideal S32x4096 .f32) = V m c main_v4 := by
  funext i; blk_point [iblk, V, idx2]
theorem blk3 : (iblk m c 3 t0_0 : FVec Ideal S512x16 .f32) = V m c main_arg3 := by
  funext i; blk_point [iblk, V, idx3]
theorem blk4 : (iblk m c 4 t0_0 : FVec Ideal S183x64 .f32) = V m c main_v11 := by
  funext i; blk_point [iblk, V, idx4]
theorem blk5 : (iblk m c 5 t0_0 : FVec Ideal S67x32 .f32) = V m c main_v15 := by
  funext i; blk_point [iblk, V, idx5]
theorem blk6 : (iblk m c 6 t0_0 : FVec Ideal S35x128 .f32) = V m c main_v19 := by
  funext i; blk_point [iblk, V, idx6]

/-! ## The arrays built before the launch -/

theorem arr0 : (V m c main_v0 : FVec Ideal S1x65536 .f32)
    = shapeCast S1x65536 (m ((c : Thread nD τ).loc main_arg0) : FVec Ideal S16x4096 .f32) shapeCasts_S16x4096_S1x65536 := by
  unfold V V0
  simp only [List.flatten_cons, List.flatten_nil, List.append_nil]
  after_results
  rfl

theorem arr3 : (V m c main_v3 : IVec S1x69632 32)
    = concatenate S1x69632 1
        [⟨S1x65536, shapeCast S1x65536 (m ((c : Thread nD τ).loc main_arg1) : IVec S16x4096 32) shapeCasts_S16x4096_S1x65536⟩,
         ⟨S1x4096, shapeCast S1x4096 (m ((c : Thread nD τ).loc main_arg4) : IVec S4096 32) shapeCasts_S4096_S1x4096⟩]
        concatenates_S1x65536_S1x4096_S1x69632_d1 := by
  unfold V V0
  simp only [List.flatten_cons, List.flatten_nil, List.append_nil]
  after_results
  rfl

theorem arr4 : (V m c main_v4 : FVec Ideal S32x4096 .f32)
    = transpose S32x4096 [1, 0] (m ((c : Thread nD τ).loc main_arg2) : FVec Ideal S4096x32 .f32) transposes_S4096x32_S32x4096_1_0 := by
  unfold V V0
  simp only [List.flatten_cons, List.flatten_nil, List.append_nil]
  after_results
  try rfl

theorem arr11 : (V m c main_v11 : FVec Ideal S183x64 .f32)
    = concatenate S183x64 0
        [⟨S49x64, (m ((c : Thread nD τ).loc main_arg5) : FVec Ideal S49x64 .f32)⟩,
         ⟨S1x64, shapeCast S1x64 (m ((c : Thread nD τ).loc main_arg6) : FVec Ideal S64 .f32) shapeCasts_S64_S1x64⟩,
         ⟨S1x64, shapeCast S1x64 (m ((c : Thread nD τ).loc main_arg7) : FVec Ideal S64 .f32) shapeCasts_S64_S1x64⟩,
         ⟨S1x64, shapeCast S1x64 (m ((c : Thread nD τ).loc main_arg8) : FVec Ideal S64 .f32) shapeCasts_S64_S1x64⟩,
         ⟨S128x64, (m ((c : Thread nD τ).loc main_arg17) : FVec Ideal S128x64 .f32)⟩,
         ⟨S1x64, shapeCast S1x64 (m ((c : Thread nD τ).loc main_arg18) : FVec Ideal S64 .f32) shapeCasts_S64_S1x64⟩,
         ⟨S1x64, shapeCast S1x64 (m ((c : Thread nD τ).loc main_arg19) : FVec Ideal S64 .f32) shapeCasts_S64_S1x64⟩,
         ⟨S1x64, shapeCast S1x64 (m ((c : Thread nD τ).loc main_arg20) : FVec Ideal S64 .f32) shapeCasts_S64_S1x64⟩]
        concatenates_S49x64_S1x64_S1x64_S1x64_S128x64_S1x64_S1x64_S1x64_S183x64_d0 := by
  unfold V V0
  simp only [List.flatten_cons, List.flatten_nil, List.append_nil]
  after_results
  rfl

theorem arr15 : (V m c main_v15 : FVec Ideal S67x32 .f32)
    = concatenate S67x32 0
        [⟨S64x32, (m ((c : Thread nD τ).loc main_arg9) : FVec Ideal S64x32 .f32)⟩,
         ⟨S1x32, shapeCast S1x32 (m ((c : Thread nD τ).loc main_arg10) : FVec Ideal S32 .f32) shapeCasts_S32_S1x32⟩,
         ⟨S1x32, shapeCast S1x32 (m ((c : Thread nD τ).loc main_arg11) : FVec Ideal S32 .f32) shapeCasts_S32_S1x32⟩,
         ⟨S1x32, shapeCast S1x32 (m ((c : Thread nD τ).loc main_arg12) : FVec Ideal S32 .f32) shapeCasts_S32_S1x32⟩]
        concatenates_S64x32_S1x32_S1x32_S1x32_S67x32_d0 := by
  unfold V V0
  simp only [List.flatten_cons, List.flatten_nil, List.append_nil]
  after_results
  rfl

theorem arr19 : (V m c main_v19 : FVec Ideal S35x128 .f32)
    = concatenate S35x128 0
        [⟨S32x128, (m ((c : Thread nD τ).loc main_arg13) : FVec Ideal S32x128 .f32)⟩,
         ⟨S1x128, shapeCast S1x128 (m ((c : Thread nD τ).loc main_arg14) : FVec Ideal S128 .f32) shapeCasts_S128_S1x128⟩,
         ⟨S1x128, shapeCast S1x128 (m ((c : Thread nD τ).loc main_arg15) : FVec Ideal S128 .f32) shapeCasts_S128_S1x128⟩,
         ⟨S1x128, shapeCast S1x128 (m ((c : Thread nD τ).loc main_arg16) : FVec Ideal S128 .f32) shapeCasts_S128_S1x128⟩]
        concatenates_S32x128_S1x128_S1x128_S1x128_S35x128_d0 := by
  unfold V V0
  simp only [List.flatten_cons, List.flatten_nil, List.append_nil]
  after_results
  rfl

/-! ## Their entries -/

theorem flat_at {α : Type} (v : S16x4096.Idx → α) (r : Fin 65536) :
    shapeCast S1x65536 v shapeCasts_S16x4096_S1x65536 (ix2 0 r)
      = v (ix2 (⟨r.val / 4096, by have := r.isLt; omega⟩ : Fin 16) (⟨r.val % 4096, Nat.mod_lt _ (by norm_num)⟩ : Fin 4096)) := by
  pointwise

theorem flat_row {α : Type} (v : S16x4096.Idx → α) (b : Fin 16) (j : Fin 4096) :
    shapeCast S1x65536 v shapeCasts_S16x4096_S1x65536 (ix2 0 (Words.rowOf b j)) = v (ix2 b j) := by
  rw [flat_at]
  congr 2
  · exact Fin.ext (show (b.val * 4096 + j.val) / 4096 = b.val by have := j.isLt; omega)
  · exact Fin.ext (show (b.val * 4096 + j.val) % 4096 = j.val by have := j.isLt; omega)

theorem joined_at {α : Type} (u : S1x65536.Idx → α) (w : S1x4096.Idx → α) (r : Fin 69632) :
    concatenate S1x69632 1 [⟨S1x65536, u⟩, ⟨S1x4096, w⟩] concatenates_S1x65536_S1x4096_S1x69632_d1 (ix2 0 r)
    = if h : r.val < 65536 then u (ix2 0 ⟨r.val, h⟩) else w (ix2 0 ⟨r.val - 65536, by have := r.isLt; omega⟩) := by
  pointwise

theorem row64_at {α : Type} (v : S64.Idx → α) (k : Fin 64) : shapeCast S1x64 v shapeCasts_S64_S1x64 (ix2 0 k) = v (ix1 k) := by
  pointwise
theorem row32_at {α : Type} (v : S32.Idx → α) (k : Fin 32) : shapeCast S1x32 v shapeCasts_S32_S1x32 (ix2 0 k) = v (ix1 k) := by
  pointwise
theorem row128_at {α : Type} (v : S128.Idx → α) (k : Fin 128) : shapeCast S1x128 v shapeCasts_S128_S1x128 (ix2 0 k) = v (ix1 k) := by
  pointwise
theorem row4096_at {α : Type} (v : S4096.Idx → α) (k : Fin 4096) : shapeCast S1x4096 v shapeCasts_S4096_S1x4096 (ix2 0 k) = v (ix1 k) := by
  pointwise

variable {A : Net.In} (H : Holds m c A)
include H

set_option maxHeartbeats 1600000 in
/-- The blocks the body is handed hold the inputs. -/
theorem blocks : Pay.Blocks A (iblk m c 0 t0_0) (iblk m c 1 t0_0) (iblk m c 2 t0_0) (iblk m c 3 t0_0) (iblk m c 4 t0_0)
    (iblk m c 5 t0_0) (iblk m c 6 t0_0) := by
  rw [blk0, blk1, blk2, blk3, blk4, blk5, blk6, arr0, arr3, arr4, arr11, arr15, arr19, V_main_arg3]
  refine
    { x := fun b j => ?_, msk := fun b j => ?_, ix := fun j => ?_, fe := fun d j => ?_, ae := H.ae
      W1 := fun i k => ?_, b1 := fun k => ?_, g1 := fun k => ?_, be1 := fun k => ?_
      Wm2 := fun e o => ?_, bm2 := fun o => ?_, gm2 := fun o => ?_, bem2 := fun o => ?_
      W2 := fun k d => ?_, b2 := fun d => ?_, g2 := fun d => ?_, be2 := fun d => ?_
      Wm1 := fun d e => ?_, bm1 := fun e => ?_, gm1 := fun e => ?_, bem1 := fun e => ?_ }
  · rw [flat_row]; exact H.x b j
  · rw [joined_at, dif_pos (Words.rowOf b j).isLt, flat_row]; exact H.msk b j
  · rw [joined_at, dif_neg (show ¬ 65536 + j.val < 65536 by omega), row4096_at, ← H.ix j]
    exact congrArg (fun k : Fin 4096 => (m ((c : Thread nD τ).loc main_arg4) : IVec S4096 32) (ix1 k))
      (Fin.ext (show 65536 + j.val - 65536 = j.val by omega))
  · pointwise; exact H.fe j d
  · pointwise; exact H.W1 i k
  · pointwise; exact H.b1 k
  · pointwise; exact H.g1 k
  · pointwise; exact H.be1 k
  · pointwise
    have he := e.isLt
    rw [dif_neg (by omega), dif_neg (by omega), dif_neg (by omega), dif_neg (by omega), dif_pos (by omega), ← H.Wm2 e o]
    exact congrArg (fun k : Fin 128 => (m ((c : Thread nD τ).loc main_arg17) : FVec Ideal S128x64 .f32) (ix2 k o))
      (Fin.ext (show 52 + e.val - 49 - 1 - 1 - 1 = e.val by omega))
  · pointwise; exact H.bm2 o
  · pointwise; exact H.gm2 o
  · pointwise; exact H.bem2 o
  · pointwise; exact H.W2 k d
  · pointwise; exact H.b2 d
  · pointwise; exact H.g2 d
  · pointwise; exact H.be2 d
  · pointwise; exact H.Wm1 d e
  · pointwise; exact H.bm1 e
  · pointwise; exact H.gm1 e
  · pointwise; exact H.bem1 e

/-- The kernel's array after the run. -/
theorem final : (dats m 0 c).arrAt 7 (cfgs 0).N = (fun i => Net.out A (i 1) (i 0) : FVec Ideal S64x16 .f32) := by
  refine (dats m 0 c).arrAt_eq_of_after_last 7 t0_0 (by decide +kernel) _ fun j => ?_
  blk_simp
  rw [after0_7]
  have hj : j = ix2 (j 0) (j 1) := by funext a; match a with | ⟨0, _⟩ => rfl | ⟨1, _⟩ => rfl
  exact (congrArg _ hj).trans (Pay.out0_7_at (blocks m c H) (j 0) (j 1))

/-- The array turned over: a row for each sample. -/
def both (A : Net.In) : FVec Ideal S16x64 .f32 := fun i => Net.out A (i 0) (i 1)

theorem turned : transpose S16x64 [1, 0] (withArrays (cfgs 0).spec c (V0 m c) (fun w => (dats m 0 c).arrAt w (cfgs 0).N)
    (Proc.tc.devRef main_v20)) transposes_S64x16_S16x64_1_0 = both A := by
  have h : withArrays (cfgs 0).spec c (V0 m c) (fun w => (dats m 0 c).arrAt w (cfgs 0).N) (Proc.tc.devRef main_v20)
      = (fun i => Net.out A (i 1) (i 0) : FVec Ideal S64x16 .f32) :=
    (Pipeline.withArrays_arr (cfgs 0).spec launch0.win.arr_inj c (V0 m c) _ 7).trans (final m c H)
  refine (congrArg (fun x => transpose S16x64 [1, 0] x transposes_S64x16_S16x64_1_0) h).trans ?_
  funext i
  idx_vars i
  pointwise [both]

/-- The two results: the left and the right half of its columns. -/
theorem result22 : Pipeline.afterTail₀ cfgs (dats m) 0 (V0 m) [hostOps1] c main_v22
    = extractStridedSlice S16x32 ![0, 0] (both A) slices_S16x64_S16x32_0_0 := by
  unfold Pipeline.afterTail₀
  simp only [List.flatten_cons, List.flatten_nil, List.append_nil]
  after_results
  rw [turned m c H]
theorem result23 : Pipeline.afterTail₀ cfgs (dats m) 0 (V0 m) [hostOps1] c main_v23
    = extractStridedSlice S16x32 ![0, 32] (both A) slices_S16x64_S16x32_0_32 := by
  unfold Pipeline.afterTail₀
  simp only [List.flatten_cons, List.flatten_nil, List.append_nil]
  after_results
  rw [turned m c H]

end Cert.KernelIdeal.Host

end
-- ==== Proof.RefTake.lean ====
/- What the reference's table lookup holds when every index names a row of the table. -/
module

public import proofs.«01_k».proof.Proof.Args
public import proofs.«01_k».proof.Proof.Gen.ReferenceIdeal.Read
public import Idealize.ShloMosaic.Lib.ReduceAll
public import Idealize.ShloMosaic.Lib.Routing.Ops
public import Idealize.ShloMosaic.Lib.StableHlo.Predicate
public import Idealize.ShloMosaic.Lib.Affine

@[expose] public section

set_option maxRecDepth 16384

noncomputable section

namespace Cert.ReferenceIdeal.Take

open Cert.ReferenceIdeal Cert.ReferenceIdeal.Gen Cert.ReferenceIdeal.Read Cert.Reals Idealize.ShloMosaic Idealize.ShloMosaic.TcCoe Idealize.SL.Sem
open Idealize.ShloMosaic.StableHlo

variable {x3 : FVec Ideal S512x16 .f32} {x4 : IVec S4096 32} {r : Fin 4096 → Fin 512}

theorem toInt_row (k : Fin 512) : (BitVec.ofNat 32 k.val).toInt = (k.val : ℤ) :=
  Idealize.ShloMosaic.StableHlo.Predicate.toInt_ofNat_small k.val (by have := k.isLt; omega)

/-- An index that names a row is left as it is. -/
theorem index_at (h : ∀ j, x4 (ix1 j) = BitVec.ofNat 32 (r j).val) (j : Fin 4096) :
    val_main_call0_v5 (F := Ideal) x4 (ix2 j (0 : Fin 1)) = BitVec.ofNat 32 (r j).val := by
  pointwise [val_main_call0_v5, val_main_call0_v4, val_main_call0_v1, val_main_call0_v0, val_main_call0_c]
  have hn : ¬ (IntOp.cmpi .slt (BitVec.ofNat 32 (r j).val) 0#32 = 1#1) := by
    rw [IntOp.cmpi_slt, toInt_row]; simp
  simp only [h]
  unfold Scalar.select
  exact if_neg hn

/-- Every index passes the range test. -/
theorem range_at (h : ∀ j, x4 (ix1 j) = BitVec.ofNat 32 (r j).val) (i : S4096x1.Idx) :
    val_main_call0_v11 (F := Ideal) x4 i = 1#1 := by
  idx_vars i
  have e := index_at h i0
  obtain rfl : i1 = 0 := Subsingleton.elim _ _
  refine IntOp.andi_eq_one.2 ⟨?_, ?_⟩
  · show IntOp.cmpi .sge (val_main_call0_v5 (F := Ideal) x4 (ix2 i0 0)) 0#32 = 1#1
    rw [e, IntOp.cmpi_sge, toInt_row]; simp
  · show IntOp.cmpi .sle (val_main_call0_v5 (F := Ideal) x4 (ix2 i0 0)) 511#32 = 1#1
    rw [e, IntOp.cmpi_sle, toInt_row]
    have := (r i0).isLt
    show ((r i0).val : ℤ) ≤ 511
    omega

/-- The lookup: row `r j` of the table. -/
theorem take_at (h : ∀ j, x4 (ix1 j) = BitVec.ofNat 32 (r j).val) (j : Fin 4096) (a : Fin 16) :
    val_main_v1 (F := Ideal) x3 x4 (ix2 j a) = x3 (ix2 (r j) a) := by
  have hg : val_main_call0_v13 (F := Ideal) x3 x4 (ix2 j a) = x3 (ix2 (r j) a) :=
    Routing.gather_row gather_S512x16_S4096x1_S4096x16_1_0_n_n_0_1_116 rfl rfl rfl rfl rfl x3 _ j a (r j) (index_at h j) (by norm_num)
  have hb : ∀ i, val_main_call0_v12 (F := Ideal) x4 i = 1#1 := fun i =>
    Host.reduce_andi_one _ _ _ _ _ rfl (range_at h)
  rw [val_main_v1_apply, val_main_call0_v14_apply, hb, hg]
  rfl

end Cert.ReferenceIdeal.Take

end
-- ==== Proof.RefFirst.lean ====
/- The first layer as the reference computes it. -/
module

public import proofs.«01_k».proof.Proof.RefTake

@[expose] public section

set_option maxRecDepth 16384

noncomputable section

namespace Cert.ReferenceIdeal.Stage

open Cert.ReferenceIdeal Cert.ReferenceIdeal.Gen Cert.ReferenceIdeal.Read Cert.Reals Idealize.ShloMosaic Idealize.ShloMosaic.TcCoe Idealize.SL.Sem

variable {A : Net.In} {x0 : FVec Ideal S16x4096 .f32} {x1 : IVec S16x4096 32} {x2 : FVec Ideal S4096x32 .f32}
  {x3 : FVec Ideal S512x16 .f32} {x4 : IVec S4096 32} {x5 : FVec Ideal S49x64 .f32} {x6 x7 x8 : FVec Ideal S64 .f32}
  {x9 : FVec Ideal S64x32 .f32} {x10 x11 x12 : FVec Ideal S32 .f32} {x13 : FVec Ideal S32x128 .f32}
  {x14 x15 x16 : FVec Ideal S128 .f32} {x17 : FVec Ideal S128x64 .f32} {x18 x19 x20 : FVec Ideal S64 .f32}
  (H : Net.Args A x0 x1 x2 x3 x4 x5 x6 x7 x8 x9 x10 x11 x12 x13 x14 x15 x16 x17 x18 x19 x20)
include H

omit H in
/-- A sum over the first matrix's rows: the sample's own, the features', the table columns'. -/
theorem sum_rows {M : Type} [AddCommMonoid M] (f : Fin 49 → M) :
    (∑ i, f i) = f 0 + (∑ d, f (Net.rowF d)) + (∑ a, f (Net.rowA a)) := by
  rw [Fin.sum_univ_add (a := 33) (b := 16) f, Fin.sum_univ_succ (fun i : Fin 33 => f (Fin.castAdd 16 i))]
  refine congrArg₂ (· + ·) (congrArg₂ (· + ·) (congrArg f rfl) (Finset.sum_congr rfl fun d _ => congrArg f (Fin.ext ?_)))
    (Finset.sum_congr rfl fun a _ => congrArg f (Fin.ext ?_))
  · show d.val + 1 = 1 + d.val; omega
  · rfl

theorem joined_x (b : Fin 16) (j : Fin 4096) :
    val_main_v7 (F := Ideal) x0 x2 x3 x4 (ix3 b j (0 : Fin 49)) = ((A.x b j : ℝ) : EReal) := by
  pointwise [val_main_v7, val_main_v6]
  exact H.x b j

theorem joined_f (b : Fin 16) (j : Fin 4096) (d : Fin 32) :
    val_main_v7 (F := Ideal) x0 x2 x3 x4 (ix3 b j (Net.rowF d)) = ((A.fe j d : ℝ) : EReal) := by
  pointwise [val_main_v7, val_main_v3, val_main_v2]
  exact H.fe j d

theorem joined_a (b : Fin 16) (j : Fin 4096) (a : Fin 16) :
    val_main_v7 (F := Ideal) x0 x2 x3 x4 (ix3 b j (Net.rowA a)) = ((A.ae (A.ix j) a : ℝ) : EReal) := by
  rw [← H.ae, ← Take.take_at (x3 := x3) H.ix j a]
  pointwise [val_main_v7, val_main_v5, val_main_v4]
  rw [dif_neg (by omega), dif_neg (by omega)]
  exact congrArg (fun t => val_main_v1 (F := Ideal) x3 x4 (ix2 j t)) (Fin.ext (by show 33 + a.val - 1 - 32 = a.val; omega))

/-- The first affine map. -/
theorem v11_at (b : Fin 16) (j : Fin 4096) (k : Fin 64) :
    val_main_v11 (F := Ideal) x0 x2 x3 x4 x5 x6 (ix3 b j k) = ((Net.z1 A b j k : ℝ) : EReal) := by
  pointwise [val_main_v11, val_main_v8, val_main_v10, val_main_v9]
  rw [sum_rows]
  simp only [joined_x H, joined_f H, joined_a H, H.W1, H.b1, ← EReal.coe_mul, sum_coe, ← EReal.coe_add]
  refine congrArg _ ?_
  unfold Net.z1 Net.u1
  ring

/-- Less its row's mean. -/
theorem v24_at (b : Fin 16) (j : Fin 4096) (k : Fin 64) :
    val_main_v24 (F := Ideal) x0 x2 x3 x4 x5 x6 (ix3 b j k) = ((cen (Net.z1 A b j) k : ℝ) : EReal) := by
  pointwise [val_main_v24, val_main_v23, val_main_v15, val_main_v14, val_main_v13, val_main_v12, val_main_cst, val_main_cst_0]
  exact cen_ereal (Z := fun x => val_main_v11 (F := Ideal) x0 x2 x3 x4 x5 x6 (ix3 b j x)) (by norm_num) (fun x => v11_at H b j x) bits_64 k

/-- Normalised, scaled, shifted, cut at zero. -/
theorem v36_at (b : Fin 16) (j : Fin 4096) (k : Fin 64) :
    val_main_v36 (F := Ideal) x0 x2 x3 x4 x5 x6 x7 x8 (ix3 b j k) = ((Net.h1 A b j k : ℝ) : EReal) := by
  pointwise [val_main_v36, val_main_call1_v0, val_main_call1_cst, val_main_v35, val_main_v34, val_main_v33, val_main_v32, val_main_v31, val_main_v30, val_main_v29, val_main_v28, val_main_v27, val_main_v26, val_main_v25, val_main_cst_3, val_main_v22, val_main_v21, val_main_v20, val_main_v19, val_main_v18, val_main_cst_1, val_main_cst_2]
  have e : val_main_v17 (F := Ideal) x0 x2 x3 x4 x5 x6 = val_main_v24 (F := Ideal) x0 x2 x3 x4 x5 x6 := rfl
  simp only [e]
  rw [nrm_ref (P := fun x => val_main_v24 (F := Ideal) x0 x2 x3 x4 x5 x6 (ix3 b j x)) (by norm_num) (fun x => v24_at H b j x) bits_64 bits_eps k,
    H.g1, H.be1]
  exact layer_ereal k

end Cert.ReferenceIdeal.Stage

end
-- ==== Proof.RefSecond.lean ====
/- The second layer as the reference computes it. -/
module

public import proofs.«01_k».proof.Proof.RefFirst

@[expose] public section

set_option maxRecDepth 16384

noncomputable section

namespace Cert.ReferenceIdeal.Stage

open Cert.ReferenceIdeal Cert.ReferenceIdeal.Gen Cert.ReferenceIdeal.Read Cert.Reals Idealize.ShloMosaic Idealize.ShloMosaic.TcCoe Idealize.SL.Sem

variable {A : Net.In} {x0 : FVec Ideal S16x4096 .f32} {x1 : IVec S16x4096 32} {x2 : FVec Ideal S4096x32 .f32}
  {x3 : FVec Ideal S512x16 .f32} {x4 : IVec S4096 32} {x5 : FVec Ideal S49x64 .f32} {x6 x7 x8 : FVec Ideal S64 .f32}
  {x9 : FVec Ideal S64x32 .f32} {x10 x11 x12 : FVec Ideal S32 .f32} {x13 : FVec Ideal S32x128 .f32}
  {x14 x15 x16 : FVec Ideal S128 .f32} {x17 : FVec Ideal S128x64 .f32} {x18 x19 x20 : FVec Ideal S64 .f32}
  (H : Net.Args A x0 x1 x2 x3 x4 x5 x6 x7 x8 x9 x10 x11 x12 x13 x14 x15 x16 x17 x18 x19 x20)
include H

/-- The second affine map. -/
theorem v40_at (b : Fin 16) (j : Fin 4096) (d : Fin 32) :
    val_main_v40 (F := Ideal) x0 x2 x3 x4 x5 x6 x7 x8 x9 x10 (ix3 b j d) = Net.z2 A b j d := by
  pointwise [val_main_v40, val_main_v37, val_main_v39, val_main_v38]
  simp only [v36_at H, H.W2, H.b2]
  rfl

/-- Less its row's mean. -/
theorem v53_at (b : Fin 16) (j : Fin 4096) (d : Fin 32) :
    val_main_v53 (F := Ideal) x0 x2 x3 x4 x5 x6 x7 x8 x9 x10 (ix3 b j d) = cenE (Net.z2 A b j) d := by
  pointwise [val_main_v53, val_main_v52, val_main_v44, val_main_v43, val_main_v42, val_main_v41, val_main_cst_4, val_main_cst_5]
  exact cenE_of (Z := fun x => val_main_v40 (F := Ideal) x0 x2 x3 x4 x5 x6 x7 x8 x9 x10 (ix3 b j x)) (fun x => v40_at H b j x) bits_32 d

/-- Normalised, scaled, shifted, cut at zero. -/
theorem v65_at (b : Fin 16) (j : Fin 4096) (d : Fin 32) :
    val_main_v65 (F := Ideal) x0 x2 x3 x4 x5 x6 x7 x8 x9 x10 x11 x12 (ix3 b j d) = ((Net.h2 A b j d : ℝ) : EReal) := by
  pointwise [val_main_v65, val_main_call2_v0, val_main_call2_cst, val_main_v64, val_main_v63, val_main_v62, val_main_v61, val_main_v60, val_main_v59, val_main_v58, val_main_v57, val_main_v56, val_main_v55, val_main_v54, val_main_cst_8, val_main_v51, val_main_v50, val_main_v49, val_main_v48, val_main_v47, val_main_cst_6, val_main_cst_7]
  have e : val_main_v46 (F := Ideal) x0 x2 x3 x4 x5 x6 x7 x8 x9 x10 = val_main_v53 (F := Ideal) x0 x2 x3 x4 x5 x6 x7 x8 x9 x10 := rfl
  simp only [e]
  rw [nrmE_ref (by norm_num) (P := fun x => val_main_v53 (F := Ideal) x0 x2 x3 x4 x5 x6 x7 x8 x9 x10 (ix3 b j x)) (fun x => v53_at H b j x) bits_32 bits_eps d,
    H.g2, H.be2]
  exact layerE_coe d

end Cert.ReferenceIdeal.Stage

end
-- ==== Proof.RefThird.lean ====
/- The masked mean and the two layers of the encoder as the reference computes them. -/
module

public import proofs.«01_k».proof.Proof.RefSecond

@[expose] public section

set_option maxRecDepth 16384

noncomputable section

namespace Cert.ReferenceIdeal.Stage

open Cert.ReferenceIdeal Cert.ReferenceIdeal.Gen Cert.ReferenceIdeal.Read Cert.Reals Idealize.ShloMosaic Idealize.ShloMosaic.TcCoe Idealize.SL.Sem

variable {A : Net.In} {x0 : FVec Ideal S16x4096 .f32} {x1 : IVec S16x4096 32} {x2 : FVec Ideal S4096x32 .f32}
  {x3 : FVec Ideal S512x16 .f32} {x4 : IVec S4096 32} {x5 : FVec Ideal S49x64 .f32} {x6 x7 x8 : FVec Ideal S64 .f32}
  {x9 : FVec Ideal S64x32 .f32} {x10 x11 x12 : FVec Ideal S32 .f32} {x13 : FVec Ideal S32x128 .f32}
  {x14 x15 x16 : FVec Ideal S128 .f32} {x17 : FVec Ideal S128x64 .f32} {x18 x19 x20 : FVec Ideal S64 .f32}
  (H : Net.Args A x0 x1 x2 x3 x4 x5 x6 x7 x8 x9 x10 x11 x12 x13 x14 x15 x16 x17 x18 x19 x20)
include H

/-- The mask as a number. -/
theorem v0_at (b : Fin 16) (j : Fin 4096) : val_main_v0 (F := Ideal) x1 (ix2 b j) = ((A.msk b j : ℝ) : EReal) := by
  rw [← H.msk]; rfl

/-- The count. -/
theorem v67_at (b : Fin 16) : val_main_v67 (F := Ideal) x1 (ix1 b) = ((Net.cnt A b : ℝ) : EReal) := by
  pointwise [val_main_v67, val_main_cst_9]
  exact sum_eq_coe fun j => v0_at H b j

/-- The masked sum. -/
theorem v66_at (b : Fin 16) (d : Fin 32) :
    val_main_v66 (F := Ideal) x0 x1 x2 x3 x4 x5 x6 x7 x8 x9 x10 x11 x12 (ix2 b d) = ((Net.acc A b d : ℝ) : EReal) := by
  pointwise [val_main_v66]
  exact sum_eq_coe fun j => by rw [v65_at H, v0_at H, ← EReal.coe_mul]

/-- The masked mean. -/
theorem v76_at (b : Fin 16) (d : Fin 32) :
    val_main_v76 (F := Ideal) x0 x1 x2 x3 x4 x5 x6 x7 x8 x9 x10 x11 x12 (ix2 b d) = ((Net.c A b d : ℝ) : EReal) := by
  refine Eq.trans ?_ (mean_masked (Net.cnt A b) (Net.acc A b d))
  rw [← v67_at H, ← v66_at H]
  pointwise [val_main_v76, val_main_call3_v2, val_main_call3_v1, val_main_call3_v0, val_main_cst_12, val_main_v75, val_main_v74,
    val_main_v73, val_main_v72, val_main_v71, val_main_cst_11, val_main_v70, val_main_v69, val_main_v68, val_main_cst_10, id]

/-- The third affine map. -/
theorem v80_at (b : Fin 16) (e : Fin 128) :
    val_main_v80 (F := Ideal) x0 x1 x2 x3 x4 x5 x6 x7 x8 x9 x10 x11 x12 x13 x14 (ix2 b e) = Net.z3 A b e := by
  pointwise [val_main_v80, val_main_v77, val_main_v79, val_main_v78]
  simp only [v76_at H, H.Wm1, H.bm1]
  rfl

/-- Less its row's mean. -/
theorem v93_at (b : Fin 16) (e : Fin 128) :
    val_main_v93 (F := Ideal) x0 x1 x2 x3 x4 x5 x6 x7 x8 x9 x10 x11 x12 x13 x14 (ix2 b e) = cenE (Net.z3 A b) e := by
  pointwise [val_main_v93, val_main_v92, val_main_v84, val_main_v83, val_main_v82, val_main_v81, val_main_cst_13, val_main_cst_14]
  exact cenE_of (Z := fun x => val_main_v80 (F := Ideal) x0 x1 x2 x3 x4 x5 x6 x7 x8 x9 x10 x11 x12 x13 x14 (ix2 b x)) (fun x => v80_at H b x) bits_128 e

/-- Normalised, scaled, shifted, cut at zero. -/
theorem v105_at (b : Fin 16) (e : Fin 128) :
    val_main_v105 (F := Ideal) x0 x1 x2 x3 x4 x5 x6 x7 x8 x9 x10 x11 x12 x13 x14 x15 x16 (ix2 b e) = ((Net.t1 A b e : ℝ) : EReal) := by
  pointwise [val_main_v105, val_main_call4_v0, val_main_call4_cst, val_main_v104, val_main_v103, val_main_v102, val_main_v101, val_main_v100, val_main_v99, val_main_v98, val_main_v97, val_main_v96, val_main_v95, val_main_v94, val_main_cst_17, val_main_v91, val_main_v90, val_main_v89, val_main_v88, val_main_v87, val_main_cst_15, val_main_cst_16]
  have same : val_main_v86 (F := Ideal) x0 x1 x2 x3 x4 x5 x6 x7 x8 x9 x10 x11 x12 x13 x14 = val_main_v93 (F := Ideal) x0 x1 x2 x3 x4 x5 x6 x7 x8 x9 x10 x11 x12 x13 x14 := rfl
  simp only [same]
  rw [nrmE_ref (by norm_num) (P := fun x => val_main_v93 (F := Ideal) x0 x1 x2 x3 x4 x5 x6 x7 x8 x9 x10 x11 x12 x13 x14 (ix2 b x)) (fun x => v93_at H b x) bits_128 bits_eps e,
    H.gm1, H.bem1]
  exact layerE_coe e

/-- The fourth affine map. -/
theorem v109_at (b : Fin 16) (o : Fin 64) :
    val_main_v109 (F := Ideal) x0 x1 x2 x3 x4 x5 x6 x7 x8 x9 x10 x11 x12 x13 x14 x15 x16 x17 x18 (ix2 b o) = Net.z4 A b o := by
  pointwise [val_main_v109, val_main_v106, val_main_v108, val_main_v107]
  simp only [v105_at H, H.Wm2, H.bm2]
  rfl

/-- Less its row's mean. -/
theorem v122_at (b : Fin 16) (o : Fin 64) :
    val_main_v122 (F := Ideal) x0 x1 x2 x3 x4 x5 x6 x7 x8 x9 x10 x11 x12 x13 x14 x15 x16 x17 x18 (ix2 b o) = cenE (Net.z4 A b) o := by
  pointwise [val_main_v122, val_main_v121, val_main_v113, val_main_v112, val_main_v111, val_main_v110, val_main_cst_18, val_main_cst_19]
  exact cenE_of (Z := fun x => val_main_v109 (F := Ideal) x0 x1 x2 x3 x4 x5 x6 x7 x8 x9 x10 x11 x12 x13 x14 x15 x16 x17 x18 (ix2 b x)) (fun x => v109_at H b x) bits_64 o

/-- Normalised, scaled, shifted, cut at zero. -/
theorem v134_at (b : Fin 16) (o : Fin 64) :
    val_main_v134 (F := Ideal) x0 x1 x2 x3 x4 x5 x6 x7 x8 x9 x10 x11 x12 x13 x14 x15 x16 x17 x18 x19 x20 (ix2 b o) = Net.out A b o := by
  pointwise [val_main_v134, val_main_call5_v0, val_main_call5_cst, val_main_v133, val_main_v132, val_main_v131, val_main_v130, val_main_v129, val_main_v128, val_main_v127, val_main_v126, val_main_v125, val_main_v124, val_main_v123, val_main_cst_22, val_main_v120, val_main_v119, val_main_v118, val_main_v117, val_main_v116, val_main_cst_20, val_main_cst_21]
  have e : val_main_v115 (F := Ideal) x0 x1 x2 x3 x4 x5 x6 x7 x8 x9 x10 x11 x12 x13 x14 x15 x16 x17 x18 = val_main_v122 (F := Ideal) x0 x1 x2 x3 x4 x5 x6 x7 x8 x9 x10 x11 x12 x13 x14 x15 x16 x17 x18 := rfl
  simp only [e]
  rw [nrmE_ref (by norm_num) (P := fun x => val_main_v122 (F := Ideal) x0 x1 x2 x3 x4 x5 x6 x7 x8 x9 x10 x11 x12 x13 x14 x15 x16 x17 x18 (ix2 b x)) (fun x => v122_at H b x) bits_64 bits_eps o,
    H.gm2, H.bem2]
  rfl

end Cert.ReferenceIdeal.Stage

end
-- ==== Proof.RefResult.lean ====
/- The two results as the reference leaves them. -/
module

public import proofs.«01_k».proof.Proof.RefThird

@[expose] public section

set_option maxRecDepth 16384

noncomputable section

namespace Cert.ReferenceIdeal.Stage

open Cert.ReferenceIdeal Cert.ReferenceIdeal.Gen Cert.ReferenceIdeal.Read Cert.Reals Idealize.ShloMosaic Idealize.ShloMosaic.TcCoe Idealize.SL.Sem

variable {A : Net.In} {x0 : FVec Ideal S16x4096 .f32} {x1 : IVec S16x4096 32} {x2 : FVec Ideal S4096x32 .f32}
  {x3 : FVec Ideal S512x16 .f32} {x4 : IVec S4096 32} {x5 : FVec Ideal S49x64 .f32} {x6 x7 x8 : FVec Ideal S64 .f32}
  {x9 : FVec Ideal S64x32 .f32} {x10 x11 x12 : FVec Ideal S32 .f32} {x13 : FVec Ideal S32x128 .f32}
  {x14 x15 x16 : FVec Ideal S128 .f32} {x17 : FVec Ideal S128x64 .f32} {x18 x19 x20 : FVec Ideal S64 .f32}
  (H : Net.Args A x0 x1 x2 x3 x4 x5 x6 x7 x8 x9 x10 x11 x12 x13 x14 x15 x16 x17 x18 x19 x20)
include H

/-- Both results side by side. -/
theorem v134_eq : val_main_v134 (F := Ideal) x0 x1 x2 x3 x4 x5 x6 x7 x8 x9 x10 x11 x12 x13 x14 x15 x16 x17 x18 x19 x20 = (fun i => Net.out A (i 0) (i 1) : FVec Ideal S16x64 .f32) := by
  funext i
  idx_vars i
  exact v134_at H i0 i1

omit H in
/-- The first result: the columns below 32. -/
theorem first_eq {V0 : Valuation τ sig (Elt Ideal)}
    (H : Net.Args A (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))) :
    extractStridedSlice S16x32 ![0, 0] (Cert.ReferenceIdeal.Value.res_main_v134 V0) slices_S16x64_S16x32_0_0
      = extractStridedSlice S16x32 ![0, 0] (fun i => Net.out A (i 0) (i 1) : FVec Ideal S16x64 .f32) slices_S16x64_S16x32_0_0 := by
  rw [val_main_v135_eq]
  unfold val_main_v135
  rw [v134_eq H]

omit H in
/-- The second result: the columns from 32 on. -/
theorem second_eq {V0 : Valuation τ sig (Elt Ideal)}
    (H : Net.Args A (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))) :
    extractStridedSlice S16x32 ![0, 32] (Cert.ReferenceIdeal.Value.res_main_v134 V0) slices_S16x64_S16x32_0_32
      = extractStridedSlice S16x32 ![0, 32] (fun i => Net.out A (i 0) (i 1) : FVec Ideal S16x64 .f32) slices_S16x64_S16x32_0_32 := by
  rw [val_main_v136_eq]
  unfold val_main_v136
  rw [v134_eq H]

end Cert.ReferenceIdeal.Stage

end
-- ==== Proof.Pre.lean ====
/- What the precondition says of the arguments: the listed entries are real, and every index names a row of the table. -/
module

public import proofs.«01_k».proof.Proof.Args
public import proofs.«01_k».proof.Proof.Gen.Pre_inputs_ok
public import Idealize.ShloMosaic.Lib.ReduceAll
public import Idealize.ShloMosaic.Lib.Affine
public import Idealize.ShloMosaic.Lib.StableHlo.Predicate

@[expose] public section

set_option maxRecDepth 16384

noncomputable section

namespace Cert.Pre_inputs_ok

open Cert.Pre_inputs_ok.Gen Cert.Reals Idealize.ShloMosaic Idealize.ShloMosaic.TcCoe Idealize.SL.Sem

/-- Two bits and together: both are set. -/
theorem both_set {a b : IVec S_ 1} (h : andi a b ix0 = 1#1) : a ix0 = 1#1 ∧ b ix0 = 1#1 := IntOp.andi_eq_one.1 h

instance one_index : Subsingleton S_.Idx := ⟨fun a b => funext fun k => k.elim0⟩

/-- An extended real whose absolute value is below infinity is a real. -/
theorem real_of_abs {y : EReal} (h : max y (-y) < ⊤) : y = ((y.toReal : ℝ) : EReal) := by
  obtain ⟨h1, h2⟩ := max_lt_iff.1 h
  refine (EReal.coe_toReal h1.ne ?_).symm
  rintro rfl
  exact h2.ne EReal.neg_bot

/-- Every entry of an array whose absolute values all pass the test is a real. -/
theorem entries_real {s : Shape} {x : FVec Ideal s .f32} {bc : S_.BroadcastsInDim s (![] : Fin 0 → Fin s.rank)}
    {axes : List (Fin s.rank)} {red : s.ReducesTo axes S_} {hp : 0 < S_.numel}
    (h : Host.reduce IntOp.andi (cmpf .olt (Host.absf x) (broadcastInDim s ![] bc (constant S_ .f32 0x7F800000#32)))
      (constantI S_ 1 1#1) red hp ix0 = 1#1) (i : s.Idx) : x i = (((x i).toReal : ℝ) : EReal) := by
  have e := Host.reduce_andi_all _ _ _ _ _ h i
  refine real_of_abs ?_
  have e' : BitVec.ofBool (decide (max (x i) (-(x i)) < Ideal.ofBits .f32 0x7F800000#32)) = 1#1 := e
  rw [bits_inf] at e'
  exact of_decide_eq_true ((StableHlo.Predicate.ofBool_eq_one_iff _).1 e')

/-- Every index passes both tests. -/
theorem index_row {x : IVec S4096 32}
    (h : Host.reduce IntOp.andi (andi (cmpi .sge x (broadcastInDim S4096 ![] bcast_S_S4096 (constantI S_ 32 0#32)))
      (cmpi .slt x (broadcastInDim S4096 ![] bcast_S_S4096 (constantI S_ 32 512#32))))
      (constantI S_ 1 1#1) reducesTo_S4096_S_d0 h_S_ ix0 = 1#1) (j : Fin 4096) :
    (x (ix1 j)).toNat < 512 := by
  have e := Host.reduce_andi_all _ _ _ _ _ h (ix1 j)
  obtain ⟨e0, e1⟩ := IntOp.andi_eq_one.1 e
  replace e0 : IntOp.cmpi .sge (x (ix1 j)) 0#32 = 1#1 := e0
  replace e1 : IntOp.cmpi .slt (x (ix1 j)) 512#32 = 1#1 := e1
  rw [IntOp.cmpi_sge] at e0
  rw [IntOp.cmpi_slt] at e1
  have k0 : (0#32 : BitVec 32).toInt = 0 := rfl
  have k1 : (512#32 : BitVec 32).toInt = 512 := rfl
  rw [k0] at e0
  rw [k1] at e1
  rw [BitVec.toInt_eq_toNat_cond] at e0 e1
  have := (x (ix1 j)).isLt
  split at e0 <;> omega

/-- The inputs that the argument arrays hold. -/
def inputs (a0 : FVec Ideal S16x4096 .f32) (a1 : IVec S16x4096 32) (a2 : FVec Ideal S4096x32 .f32) (a3 : FVec Ideal S512x16 .f32)
    (a4 : IVec S4096 32) (a5 : FVec Ideal S49x64 .f32) (a6 a7 a8 : FVec Ideal S64 .f32)
    (a9 : FVec Ideal S64x32 .f32) (a10 a11 a12 : FVec Ideal S32 .f32)
    (a13 : FVec Ideal S32x128 .f32) (a14 a15 a16 : FVec Ideal S128 .f32)
    (a17 : FVec Ideal S128x64 .f32) (a18 a19 a20 : FVec Ideal S64 .f32) : Net.In where
  x b j := (a0 (ix2 b j)).toReal
  msk b j := ((a1 (ix2 b j)).toInt : ℝ)
  fe j d := (a2 (ix2 j d)).toReal
  ae i a := (a3 (ix2 i a)).toReal
  ix j := ⟨(a4 (ix1 j)).toNat % 512, Nat.mod_lt _ (by norm_num)⟩
  W1 i k := (a5 (ix2 i k)).toReal
  b1 k := (a6 (ix1 k)).toReal
  g1 k := (a7 (ix1 k)).toReal
  be1 k := (a8 (ix1 k)).toReal
  W2 k d := a9 (ix2 k d)
  b2 d := a10 (ix1 d)
  g2 d := (a11 (ix1 d)).toReal
  be2 d := (a12 (ix1 d)).toReal
  Wm1 d e := a13 (ix2 d e)
  bm1 e := a14 (ix1 e)
  gm1 e := (a15 (ix1 e)).toReal
  bem1 e := (a16 (ix1 e)).toReal
  Wm2 e o := a17 (ix2 e o)
  bm2 o := a18 (ix1 o)
  gm2 o := a19 (ix1 o)
  bem2 o := a20 (ix1 o)

set_option maxHeartbeats 1600000 in
/-- Under the precondition the argument arrays hold them. -/
theorem holds {a0 : FVec Ideal S16x4096 .f32} {a1 : IVec S16x4096 32} {a2 : FVec Ideal S4096x32 .f32} {a3 : FVec Ideal S512x16 .f32}
    {a4 : IVec S4096 32} {a5 : FVec Ideal S49x64 .f32} {a6 a7 a8 : FVec Ideal S64 .f32}
    {a9 : FVec Ideal S64x32 .f32} {a10 a11 a12 : FVec Ideal S32 .f32}
    {a13 : FVec Ideal S32x128 .f32} {a14 a15 a16 : FVec Ideal S128 .f32}
    {a17 : FVec Ideal S128x64 .f32} {a18 a19 a20 : FVec Ideal S64 .f32}
    (h : fn (F := Ideal) a0 a1 a2 a3 a4 a5 a6 a7 a8 a9 a10 a11 a12 a13 a14 a15 a16 a17 a18 a19 a20 ix0 = 1#1) :
    Net.Args (inputs a0 a1 a2 a3 a4 a5 a6 a7 a8 a9 a10 a11 a12 a13 a14 a15 a16 a17 a18 a19 a20)
      a0 a1 a2 a3 a4 a5 a6 a7 a8 a9 a10 a11 a12 a13 a14 a15 a16 a17 a18 a19 a20 := by
  dsimp only [fn, fn_part1, fn_part2, fn_part3] at h
  obtain ⟨h, h16⟩ := both_set h
  obtain ⟨h, h15⟩ := both_set h
  obtain ⟨h, h12⟩ := both_set h
  obtain ⟨h, h11⟩ := both_set h
  obtain ⟨h, h8⟩ := both_set h
  obtain ⟨h, h7⟩ := both_set h
  obtain ⟨h, h6⟩ := both_set h
  obtain ⟨h, h5⟩ := both_set h
  obtain ⟨h, h3⟩ := both_set h
  obtain ⟨h, h2⟩ := both_set h
  obtain ⟨h4, h0⟩ := both_set h
  exact {
    x := fun b j => entries_real h0 _
    msk := fun b j => rfl
    fe := fun j d => entries_real h2 _
    ae := fun i a => entries_real h3 _
    ix := fun j => by
      have hj := index_row h4 j
      show a4 (ix1 j) = BitVec.ofNat 32 ((a4 (ix1 j)).toNat % 512)
      rw [Nat.mod_eq_of_lt hj, BitVec.ofNat_toNat, BitVec.setWidth_eq]
    W1 := fun i k => entries_real h5 _
    b1 := fun k => entries_real h6 _
    g1 := fun k => entries_real h7 _
    be1 := fun k => entries_real h8 _
    W2 := fun k d => rfl
    b2 := fun d => rfl
    g2 := fun d => entries_real h11 _
    be2 := fun d => entries_real h12 _
    Wm1 := fun d e => rfl
    bm1 := fun e => rfl
    gm1 := fun e => entries_real h15 _
    bem1 := fun e => entries_real h16 _
    Wm2 := fun e o => rfl
    bm2 := fun o => rfl
    gm2 := fun o => rfl
    bem2 := fun o => rfl }

end Cert.Pre_inputs_ok

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_inputs_ok
public import proofs.«01_k».proof.Proof.Host
public import proofs.«01_k».proof.Proof.RefResult
public import proofs.«01_k».proof.Proof.Pre
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The reference runs, leaves its arguments as they were, and has no semaphore to leave off zero. -/
theorem frameR : Cert.quiescent_ReferenceIdeal (hReferenceIdeal := Cert.ReferenceIdeal.Gen.facts) := by
  intro m g _
  exact (θ_run Cert.ReferenceIdeal.defs _ _).mono (fun r h => ⟨fun c => (h c).2.2,
      Idealize.ShloMosaic.sem_eq_zero_of_no_sems (by decide) r.2⟩)
    (Cert.ReferenceIdeal.Value.run (F := Ideal) m g)

/-- The inputs that core `c`'s argument arrays hold. -/
def inputs (m : (ℓ : Loc Cert.KernelIdeal.nD Cert.KernelIdeal.τ Cert.KernelIdeal.sig) → Buf (Elt Ideal) ℓ)
    (c : Dev Cert.KernelIdeal.nD) : Net.In :=
  Cert.Pre_inputs_ok.inputs
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
    (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
    (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))

theorem kernel_holds {m : (ℓ : Loc Cert.KernelIdeal.nD Cert.KernelIdeal.τ Cert.KernelIdeal.sig) → Buf (Elt Ideal) ℓ}
    (h : Cert.Pre_KernelIdeal_inputs_ok (hPre_inputs_ok := Cert.Pre_inputs_ok.Gen.facts) m) (c : Dev Cert.KernelIdeal.nD) :
    Cert.KernelIdeal.Host.Holds m c (inputs m c) :=
  Cert.Pre_inputs_ok.holds (congrFun (h c) ix0)

/-- Arrays that agree with the kernel's hold the same inputs. -/
theorem reference_holds {A : Net.In} {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD} (H : Cert.KernelIdeal.Host.Holds m c A)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Net.Args A
    (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) := by
  obtain ⟨h0, h1, h2, h3, h4, h5, h6, h7, h8, h9, h10, h11, h12, h13, h14, h15, h16, h17, h18, h19, h20⟩ := h
  rw [h0, h1, h2, h3, h4, h5, h6, h7, h8, h9, h10, h11, h12, h13, h14, h15, h16, h17, h18, h19, h20]
  exact H

/-- Where the precondition holds, the kernel's two results are the reference's. -/
theorem algebraic : Cert.algebraic_KernelIdeal_ReferenceIdeal_pre_inputs_ok (hKernelIdeal := Cert.KernelIdeal.Gen.facts) (hReferenceIdeal := Cert.ReferenceIdeal.Gen.facts) (hPre_inputs_ok := Cert.Pre_inputs_ok.Gen.facts) := by
  intro m g m' g' hpre hagree
  have H := kernel_holds hpre
  refine ⟨fun c => extractStridedSlice Cert.KernelIdeal.S16x32 ![0, 0] (Cert.KernelIdeal.Host.both (inputs m c)) Cert.KernelIdeal.Gen.slices_S16x64_S16x32_0_0,
    fun c => extractStridedSlice Cert.KernelIdeal.S16x32 ![0, 32] (Cert.KernelIdeal.Host.both (inputs m c)) Cert.KernelIdeal.Gen.slices_S16x64_S16x32_0_32, ?_, ?_⟩
  · refine (θ_run Cert.KernelIdeal.defs _ _).mono (fun r h c => ?_)
      (θ_run_and (Cert.KernelIdeal.Gen.run_main m g) (Cert.KernelIdeal.Gen.unchanged m g))
    exact ⟨((h.1 c).2 Cert.KernelIdeal.main_v22 (Pipeline.mem_restRefs_of Cert.KernelIdeal.main_v22 (by decide) (by decide))).trans
        (Cert.KernelIdeal.Host.result22 m c (H c)),
      ((h.1 c).2 Cert.KernelIdeal.main_v23 (Pipeline.mem_restRefs_of Cert.KernelIdeal.main_v23 (by decide) (by decide))).trans
        (Cert.KernelIdeal.Host.result23 m c (H c)), h.2 c⟩
  · refine (θ_run Cert.ReferenceIdeal.defs _ _).mono (fun r h c => ?_) (Cert.ReferenceIdeal.Value.run (F := Ideal) m' g')
    have H' := reference_holds (H c) (hagree c)
    exact ⟨(h c).1.trans (Cert.ReferenceIdeal.Stage.first_eq (V0 := StableHlo.launchContents m' c) H'),
      (h c).2.1.trans (Cert.ReferenceIdeal.Stage.second_eq (V0 := StableHlo.launchContents m' c) H'), (h c).2.2⟩

theorem claim : Cert.Claim :=
  ⟨Cert.Kernel.Gen.facts, Cert.KernelIdeal.Gen.facts, Cert.ReferenceIdeal.Gen.facts, Cert.Pre_inputs_ok.Gen.facts,
    fun m g _ => Cert.Kernel.Gen.frame m g, fun m g _ => Cert.KernelIdeal.Gen.frame m g,
    fun m g _ => Cert.KernelIdeal.Gen.frame m g,
    frameR, (fun m g _ => frameR m g trivial), trivial, algebraic⟩

end Cert.Proof

end
